-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 64]⟩ ⟨2, ![2048, 64]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 64]⟩ ⟨2, ![2048, 64]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x64 : Shape := ⟨2, ![128, 64]⟩
abbrev S16x128x64 : Shape := ⟨3, ![16, 128, 64]⟩
abbrev S8x128x128 : Shape := ⟨3, ![8, 128, 128]⟩
abbrev S15 : Shape := ⟨1, ![15]⟩
abbrev S_ : Shape := ⟨0, ![]⟩
abbrev S128x1 : Shape := ⟨2, ![128, 1]⟩
abbrev S4x2x16x64 : Shape := ⟨4, ![4, 2, 16, 64]⟩
abbrev S4x1x16x64 : Shape := ⟨4, ![4, 1, 16, 64]⟩
abbrev S4x16x64 : Shape := ⟨3, ![4, 16, 64]⟩
abbrev S4x1x1 : Shape := ⟨3, ![4, 1, 1]⟩
abbrev S2x2x32x64 : Shape := ⟨4, ![2, 2, 32, 64]⟩
abbrev S2x1x32x64 : Shape := ⟨4, ![2, 1, 32, 64]⟩
abbrev S2x32x64 : Shape := ⟨3, ![2, 32, 64]⟩
abbrev S2x1x1 : Shape := ⟨3, ![2, 1, 1]⟩
abbrev S1x2x64x64 : Shape := ⟨4, ![1, 2, 64, 64]⟩
abbrev S1x1x64x64 : Shape := ⟨4, ![1, 1, 64, 64]⟩
abbrev S1x64x64 : Shape := ⟨3, ![1, 64, 64]⟩
abbrev S1x1x1 : Shape := ⟨3, ![1, 1, 1]⟩
abbrev S1x128x64 : Shape := ⟨3, ![1, 128, 64]⟩
abbrev S1 : Shape := ⟨1, ![1]⟩
abbrev S8x128x64 : Shape := ⟨3, ![8, 128, 64]⟩
abbrev S1024x64 : Shape := ⟨2, ![1024, 64]⟩
abbrev S1024x128 : Shape := ⟨2, ![1024, 128]⟩
abbrev S4x2x128x128 : Shape := ⟨4, ![4, 2, 128, 128]⟩
abbrev S4x1x128x128 : Shape := ⟨4, ![4, 1, 128, 128]⟩
abbrev S4x128x128 : Shape := ⟨3, ![4, 128, 128]⟩
abbrev S8x2x64x128 : Shape := ⟨4, ![8, 2, 64, 128]⟩
abbrev S8x1x64x128 : Shape := ⟨4, ![8, 1, 64, 128]⟩
abbrev S8x64x128 : Shape := ⟨3, ![8, 64, 128]⟩
abbrev S8x1x1 : Shape := ⟨3, ![8, 1, 1]⟩
abbrev S16x2x32x128 : Shape := ⟨4, ![16, 2, 32, 128]⟩
abbrev S16x1x32x128 : Shape := ⟨4, ![16, 1, 32, 128]⟩
abbrev S16x32x128 : Shape := ⟨3, ![16, 32, 128]⟩
abbrev S16x1x1 : Shape := ⟨3, ![16, 1, 1]⟩
abbrev S32x2x16x128 : Shape := ⟨4, ![32, 2, 16, 128]⟩
abbrev S32x1x16x128 : Shape := ⟨4, ![32, 1, 16, 128]⟩
abbrev S32x16x128 : Shape := ⟨3, ![32, 16, 128]⟩
abbrev S32x1x1 : Shape := ⟨3, ![32, 1, 1]⟩
abbrev S1024x1 : Shape := ⟨2, ![1024, 1]⟩
abbrev S1x128 : Shape := ⟨2, ![1, 128]⟩
abbrev S2x2x256x128 : Shape := ⟨4, ![2, 2, 256, 128]⟩
abbrev S2x1x256x128 : Shape := ⟨4, ![2, 1, 256, 128]⟩
abbrev S2x256x128 : Shape := ⟨3, ![2, 256, 128]⟩
abbrev S1x2x512x128 : Shape := ⟨4, ![1, 2, 512, 128]⟩
abbrev S1x1x512x128 : Shape := ⟨4, ![1, 1, 512, 128]⟩
abbrev S1x512x128 : Shape := ⟨3, ![1, 512, 128]⟩
abbrev S1x1x128 : Shape := ⟨3, ![1, 1, 128]⟩
abbrev S1x128x128 : Shape := ⟨3, ![1, 128, 128]⟩
abbrev S128x128 : Shape := ⟨2, ![128, 128]⟩

abbrev nBuf : Space → Nat
  | .hbm => 2
  | .vmem => 4
  | .smem => 0
  | _ => 0

abbrev bufTy : (tb : Table) → Fin (tcTables nBuf tb) → BufTy
  | .hbm, ⟨0, _⟩ => ⟨S128x64, .bf16⟩
  | .hbm, ⟨1, _⟩ => ⟨S128x64, .f32⟩
  | .local _ .vmem, ⟨0, _⟩ => ⟨S128x64, .bf16⟩
  | .local _ .vmem, ⟨1, _⟩ => ⟨S128x64, .f32⟩
  | .local _ .vmem, ⟨2, _⟩ => ⟨S16x128x64, .bf16⟩
  | .local _ .vmem, ⟨3, _⟩ => ⟨S8x128x128, .bf16⟩
  | _, _ => ⟨S128x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v5 : BitVec 32 := Scalar.addi v2 c1_i32_0
  let c16_i32_1 : BitVec 32 := 16#32
  let v6 : BitVec 32 := Scalar.remsi v5 c16_i32_1
  let c1_i32_3 : BitVec 32 := 1#32
  let v7 : BitVec 32 := Scalar.muli v6 c1_i32_3
  let v8 : BitVec 32 := Scalar.addi c0_i32 v7
  v8.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v9 : BitVec 32 := Scalar.addi v2 c2_i32
  let c16_i32_4 : BitVec 32 := 16#32
  let v10 : BitVec 32 := Scalar.remsi v9 c16_i32_4
  let c1_i32_6 : BitVec 32 := 1#32
  let v11 : BitVec 32 := Scalar.muli v10 c1_i32_6
  let v12 : BitVec 32 := Scalar.addi c0_i32_7 v11
  v12.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 32 := Scalar.addi v2 c3_i32
  let c16_i32_8 : BitVec 32 := 16#32
  let v14 : BitVec 32 := Scalar.remsi v13 c16_i32_8
  let c1_i32_10 : BitVec 32 := 1#32
  let v15 : BitVec 32 := Scalar.muli v14 c1_i32_10
  let v16 : BitVec 32 := Scalar.addi c0_i32_11 v15
  v16.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v17 : BitVec 32 := Scalar.addi v2 c4_i32
  let c16_i32_12 : BitVec 32 := 16#32
  let v18 : BitVec 32 := Scalar.remsi v17 c16_i32_12
  let c1_i32_14 : BitVec 32 := 1#32
  let v19 : BitVec 32 := Scalar.muli v18 c1_i32_14
  let v20 : BitVec 32 := Scalar.addi c0_i32_15 v19
  v20.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v21 : BitVec 32 := Scalar.addi v2 c5_i32
  let c16_i32_16 : BitVec 32 := 16#32
  let v22 : BitVec 32 := Scalar.remsi v21 c16_i32_16
  let c1_i32_18 : BitVec 32 := 1#32
  let v23 : BitVec 32 := Scalar.muli v22 c1_i32_18
  let v24 : BitVec 32 := Scalar.addi c0_i32_19 v23
  v24.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v25 : BitVec 32 := Scalar.addi v2 c6_i32
  let c16_i32_20 : BitVec 32 := 16#32
  let v26 : BitVec 32 := Scalar.remsi v25 c16_i32_20
  let c1_i32_22 : BitVec 32 := 1#32
  let v27 : BitVec 32 := Scalar.muli v26 c1_i32_22
  let v28 : BitVec 32 := Scalar.addi c0_i32_23 v27
  v28.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v29 : BitVec 32 := Scalar.addi v2 c7_i32
  let c16_i32_24 : BitVec 32 := 16#32
  let v30 : BitVec 32 := Scalar.remsi v29 c16_i32_24
  let c1_i32_26 : BitVec 32 := 1#32
  let v31 : BitVec 32 := Scalar.muli v30 c1_i32_26
  let v32 : BitVec 32 := Scalar.addi c0_i32_27 v31
  v32.toNat
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_28 : BitVec 32 := 8#32
  let v33 : BitVec 32 := Scalar.addi v2 c8_i32_28
  let c16_i32_29 : BitVec 32 := 16#32
  let v34 : BitVec 32 := Scalar.remsi v33 c16_i32_29
  let c1_i32_31 : BitVec 32 := 1#32
  let v35 : BitVec 32 := Scalar.muli v34 c1_i32_31
  let v36 : BitVec 32 := Scalar.addi c0_i32_32 v35
  v36.toNat
def k0_dev9 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v37 : BitVec 32 := Scalar.addi v2 c9_i32
  let c16_i32_33 : BitVec 32 := 16#32
  let v38 : BitVec 32 := Scalar.remsi v37 c16_i32_33
  let c1_i32_35 : BitVec 32 := 1#32
  let v39 : BitVec 32 := Scalar.muli v38 c1_i32_35
  let v40 : BitVec 32 := Scalar.addi c0_i32_36 v39
  v40.toNat
def k0_dev10 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v41 : BitVec 32 := Scalar.addi v2 c10_i32
  let c16_i32_37 : BitVec 32 := 16#32
  let v42 : BitVec 32 := Scalar.remsi v41 c16_i32_37
  let c1_i32_39 : BitVec 32 := 1#32
  let v43 : BitVec 32 := Scalar.muli v42 c1_i32_39
  let v44 : BitVec 32 := Scalar.addi c0_i32_40 v43
  v44.toNat
def k0_dev11 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v45 : BitVec 32 := Scalar.addi v2 c11_i32
  let c16_i32_41 : BitVec 32 := 16#32
  let v46 : BitVec 32 := Scalar.remsi v45 c16_i32_41
  let c1_i32_43 : BitVec 32 := 1#32
  let v47 : BitVec 32 := Scalar.muli v46 c1_i32_43
  let v48 : BitVec 32 := Scalar.addi c0_i32_44 v47
  v48.toNat
def k0_dev12 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v49 : BitVec 32 := Scalar.addi v2 c12_i32
  let c16_i32_45 : BitVec 32 := 16#32
  let v50 : BitVec 32 := Scalar.remsi v49 c16_i32_45
  let c1_i32_47 : BitVec 32 := 1#32
  let v51 : BitVec 32 := Scalar.muli v50 c1_i32_47
  let v52 : BitVec 32 := Scalar.addi c0_i32_48 v51
  v52.toNat
def k0_dev13 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v53 : BitVec 32 := Scalar.addi v2 c13_i32
  let c16_i32_49 : BitVec 32 := 16#32
  let v54 : BitVec 32 := Scalar.remsi v53 c16_i32_49
  let c1_i32_51 : BitVec 32 := 1#32
  let v55 : BitVec 32 := Scalar.muli v54 c1_i32_51
  let v56 : BitVec 32 := Scalar.addi c0_i32_52 v55
  v56.toNat
def k0_dev14 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v57 : BitVec 32 := Scalar.addi v2 c14_i32
  let c16_i32_53 : BitVec 32 := 16#32
  let v58 : BitVec 32 := Scalar.remsi v57 c16_i32_53
  let c1_i32_55 : BitVec 32 := 1#32
  let v59 : BitVec 32 := Scalar.muli v58 c1_i32_55
  let v60 : BitVec 32 := Scalar.addi c0_i32_56 v59
  v60.toNat
def k0_dev15 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v61 : BitVec 32 := Scalar.addi v2 c15_i32
  let c16_i32_57 : BitVec 32 := 16#32
  let v62 : BitVec 32 := Scalar.remsi v61 c16_i32_57
  let c1_i32_59 : BitVec 32 := 1#32
  let v63 : BitVec 32 := Scalar.muli v62 c1_i32_59
  let v64 : BitVec 32 := Scalar.addi c0_i32_60 v63
  v64.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v667 : Index := Scalar.indexCast v2
  let c0_207 : Index := 0#32
  let c0_208 : Index := 0#32
  ![v667.toNat, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_216 : BitVec 32 := 0#32
  let c0_i32_217 : BitVec 32 := 0#32
  ![v2.toNat, 0, 0]
def k0_dev16 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_210 : BitVec 32 := 1#32
  let v671 : BitVec 32 := Scalar.addi v2 c1_i32_210
  let c16_i32_211 : BitVec 32 := 16#32
  let v672 : BitVec 32 := Scalar.remsi v671 c16_i32_211
  let c1_i32_214 : BitVec 32 := 1#32
  let v673 : BitVec 32 := Scalar.muli v672 c1_i32_214
  let v674 : BitVec 32 := Scalar.addi c0_i32_215 v673
  v674.toNat
def k0_dev17 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_220 : BitVec 32 := 2#32
  let v683 : BitVec 32 := Scalar.addi v2 c2_i32_220
  let c16_i32_221 : BitVec 32 := 16#32
  let v684 : BitVec 32 := Scalar.remsi v683 c16_i32_221
  let c1_i32_224 : BitVec 32 := 1#32
  let v685 : BitVec 32 := Scalar.muli v684 c1_i32_224
  let v686 : BitVec 32 := Scalar.addi c0_i32_225 v685
  v686.toNat
def k0_dev18 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_230 : BitVec 32 := 3#32
  let v695 : BitVec 32 := Scalar.addi v2 c3_i32_230
  let c16_i32_231 : BitVec 32 := 16#32
  let v696 : BitVec 32 := Scalar.remsi v695 c16_i32_231
  let c1_i32_234 : BitVec 32 := 1#32
  let v697 : BitVec 32 := Scalar.muli v696 c1_i32_234
  let v698 : BitVec 32 := Scalar.addi c0_i32_235 v697
  v698.toNat
def k0_dev19 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_240 : BitVec 32 := 4#32
  let v707 : BitVec 32 := Scalar.addi v2 c4_i32_240
  let c16_i32_241 : BitVec 32 := 16#32
  let v708 : BitVec 32 := Scalar.remsi v707 c16_i32_241
  let c1_i32_244 : BitVec 32 := 1#32
  let v709 : BitVec 32 := Scalar.muli v708 c1_i32_244
  let v710 : BitVec 32 := Scalar.addi c0_i32_245 v709
  v710.toNat
def k0_dev20 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_250 : BitVec 32 := 5#32
  let v719 : BitVec 32 := Scalar.addi v2 c5_i32_250
  let c16_i32_251 : BitVec 32 := 16#32
  let v720 : BitVec 32 := Scalar.remsi v719 c16_i32_251
  let c1_i32_254 : BitVec 32 := 1#32
  let v721 : BitVec 32 := Scalar.muli v720 c1_i32_254
  let v722 : BitVec 32 := Scalar.addi c0_i32_255 v721
  v722.toNat
def k0_dev21 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_260 : BitVec 32 := 6#32
  let v731 : BitVec 32 := Scalar.addi v2 c6_i32_260
  let c16_i32_261 : BitVec 32 := 16#32
  let v732 : BitVec 32 := Scalar.remsi v731 c16_i32_261
  let c1_i32_264 : BitVec 32 := 1#32
  let v733 : BitVec 32 := Scalar.muli v732 c1_i32_264
  let v734 : BitVec 32 := Scalar.addi c0_i32_265 v733
  v734.toNat
def k0_dev22 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_270 : BitVec 32 := 7#32
  let v743 : BitVec 32 := Scalar.addi v2 c7_i32_270
  let c16_i32_271 : BitVec 32 := 16#32
  let v744 : BitVec 32 := Scalar.remsi v743 c16_i32_271
  let c1_i32_274 : BitVec 32 := 1#32
  let v745 : BitVec 32 := Scalar.muli v744 c1_i32_274
  let v746 : BitVec 32 := Scalar.addi c0_i32_275 v745
  v746.toNat
def k0_dev23 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_280 : BitVec 32 := 8#32
  let v755 : BitVec 32 := Scalar.addi v2 c8_i32_280
  let c16_i32_281 : BitVec 32 := 16#32
  let v756 : BitVec 32 := Scalar.remsi v755 c16_i32_281
  let c1_i32_284 : BitVec 32 := 1#32
  let v757 : BitVec 32 := Scalar.muli v756 c1_i32_284
  let v758 : BitVec 32 := Scalar.addi c0_i32_285 v757
  v758.toNat
def k0_dev24 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_290 : BitVec 32 := 9#32
  let v767 : BitVec 32 := Scalar.addi v2 c9_i32_290
  let c16_i32_291 : BitVec 32 := 16#32
  let v768 : BitVec 32 := Scalar.remsi v767 c16_i32_291
  let c1_i32_294 : BitVec 32 := 1#32
  let v769 : BitVec 32 := Scalar.muli v768 c1_i32_294
  let v770 : BitVec 32 := Scalar.addi c0_i32_295 v769
  v770.toNat
def k0_dev25 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_300 : BitVec 32 := 10#32
  let v779 : BitVec 32 := Scalar.addi v2 c10_i32_300
  let c16_i32_301 : BitVec 32 := 16#32
  let v780 : BitVec 32 := Scalar.remsi v779 c16_i32_301
  let c1_i32_304 : BitVec 32 := 1#32
  let v781 : BitVec 32 := Scalar.muli v780 c1_i32_304
  let v782 : BitVec 32 := Scalar.addi c0_i32_305 v781
  v782.toNat
def k0_dev26 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_310 : BitVec 32 := 11#32
  let v791 : BitVec 32 := Scalar.addi v2 c11_i32_310
  let c16_i32_311 : BitVec 32 := 16#32
  let v792 : BitVec 32 := Scalar.remsi v791 c16_i32_311
  let c1_i32_314 : BitVec 32 := 1#32
  let v793 : BitVec 32 := Scalar.muli v792 c1_i32_314
  let v794 : BitVec 32 := Scalar.addi c0_i32_315 v793
  v794.toNat
def k0_dev27 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_320 : BitVec 32 := 12#32
  let v803 : BitVec 32 := Scalar.addi v2 c12_i32_320
  let c16_i32_321 : BitVec 32 := 16#32
  let v804 : BitVec 32 := Scalar.remsi v803 c16_i32_321
  let c1_i32_324 : BitVec 32 := 1#32
  let v805 : BitVec 32 := Scalar.muli v804 c1_i32_324
  let v806 : BitVec 32 := Scalar.addi c0_i32_325 v805
  v806.toNat
def k0_dev28 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_330 : BitVec 32 := 13#32
  let v815 : BitVec 32 := Scalar.addi v2 c13_i32_330
  let c16_i32_331 : BitVec 32 := 16#32
  let v816 : BitVec 32 := Scalar.remsi v815 c16_i32_331
  let c1_i32_334 : BitVec 32 := 1#32
  let v817 : BitVec 32 := Scalar.muli v816 c1_i32_334
  let v818 : BitVec 32 := Scalar.addi c0_i32_335 v817
  v818.toNat
def k0_dev29 (d0 : Dev nD) : Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_340 : BitVec 32 := 14#32
  let v827 : BitVec 32 := Scalar.addi v2 c14_i32_340
  let c16_i32_341 : BitVec 32 := 16#32
  let v828 : BitVec 32 := Scalar.remsi v827 c16_i32_341
  let c1_i32_344 : BitVec 32 := 1#32
  let v829 : BitVec 32 := Scalar.muli v828 c1_i32_344
  let v830 : BitVec 32 := Scalar.addi c0_i32_345 v829
  v830.toNat
def k0_dev30 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_350 : BitVec 32 := 15#32
  let v839 : BitVec 32 := Scalar.addi v2 c15_i32_350
  let c16_i32_351 : BitVec 32 := 16#32
  let v840 : BitVec 32 := Scalar.remsi v839 c16_i32_351
  let c1_i32_354 : BitVec 32 := 1#32
  let v841 : BitVec 32 := Scalar.muli v840 c1_i32_354
  let v842 : BitVec 32 := Scalar.addi c0_i32_355 v841
  v842.toNat
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.remsi v2 c8_i32
  let v1788 : Index := Scalar.indexCast v3
  let c0_735 : Index := 0#32
  let c0_736 : Index := 0#32
  ![v1788.toNat, 0, 0]
abbrev stage0_0 : Fin 1 → Memref sig .tc .vmem S128x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x64 : Shape := ⟨2, ![2048, 64]⟩

abbrev nBuf : Space → Nat
  | .hbm => 3
  | .vmem => 0
  | .smem => 0
  | _ => 0

abbrev bufTy : (tb : Table) → Fin (tcTables nBuf tb) → BufTy
  | .hbm, ⟨0, _⟩ => ⟨S2048x64, .bf16⟩
  | .hbm, ⟨1, _⟩ => ⟨S2048x64, .f32⟩
  | .hbm, ⟨2, _⟩ => ⟨S2048x64, .f32⟩
  | _, _ => ⟨S2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Ring.lean ====
/-
# The exchange between the sixteen devices: cells, payloads, schedule, levels

Each device sorts its own block into slot `c` of its gather buffer and sends that slot to the same slot of every other
device. With `nx k c` the device `k + 1` places after `c` (`k < 15`):

* the runtime's barrier cell of a device takes one unit from each of the fifteen others; `c`'s `k`-th signal goes to
  `nx k c` and hands it the slot `nx k c` of `c`'s own gather buffer, which `nx k c` will write;
* the send cell `k` of `c` hands back the share of slot `c` the `k`-th transfer reads;
* the receive cell `k` of `nx k c` hands over slot `c` of that device's gather buffer, filled.

The gather buffer ends with the same contents `G` on every device, so every payload about a filled slot speaks of `G`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-! ## The resource algebra -/

/-- The exchange's own copy of the rounds algebra, its duties named by `Fin 15`. -/
abbrev UX : Type := URounds (GSem nD τ sig) (Fin 15)
/-- The staging copies' rounds beside the exchange's. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## The neighbours -/

set_option backward.proofsInPublic true in
/-- The device `k + 1` places after `c`. -/
def nx (k : Fin 15) (c : Dev nD) : Dev nD := ⟨(c.val + k.val + 1) % 16, Nat.mod_lt _ (by decide)⟩

/-- Going `k + 1` places on and then `15 - k` places on comes back. -/
theorem nx_rev_nx (k : Fin 15) (c : Dev nD) : nx k.rev (nx k c) = c := by revert k c; decide
theorem nx_nx_rev (k : Fin 15) (c : Dev nD) : nx k (nx k.rev c) = c := by revert k c; decide
theorem nx_ne (k : Fin 15) (c : Dev nD) : nx k c ≠ c := by revert k c; decide
theorem nx_left_injective (c : Dev nD) : Function.Injective (fun k => nx k c) := by revert c; decide

/-- `nx k` as a permutation of the devices. -/
def turn (k : Fin 15) : Dev nD ≃ Dev nD := ⟨nx k, nx k.rev, nx_rev_nx k, fun c => nx_nx_rev k c⟩

/-! ## The buffers and the slots -/

abbrev xM : Memref sig .tc .vmem S128x64 .bf16 := Memref.whole cc0_stg0_0
abbrev oM : Memref sig .tc .vmem S128x64 .f32 := Memref.whole cc0_stg1_0
abbrev gM : Memref sig .tc .vmem S16x128x64 .bf16 := Memref.whole cc0_scratch0
abbrev wM : Memref sig .tc .vmem S8x128x128 .bf16 := Memref.whole cc0_scratch1

/-- Slot `b` of the gather buffer, as the transfers address it. -/
abbrev slotM (b : Dev nD) : Memref sig .tc .vmem S128x64 .bf16 :=
  (gM.slice (Rect.unit (s := S16x128x64) (k0_off2 b) S1x128x64.size (k0_off2_inb b)) (fun _ => rfl)).squeeze S128x64
    squeezes_S1x128x64_S128x64

/-- Slot `b` of the gather buffer, as the load and the store before the transfers address it. -/
abbrev slotR (b : Dev nD) : Rect S16x128x64 := Rect.unit (s := S16x128x64) (k0_off1 b) S1x128x64.size (k0_off1_inb b)

/-- The type of the gather buffer's contents. -/
abbrev Gath (F : FTy → Type) : Type := (cc0_scratch0 : Ref sig .tc).ty.Contents (Elt F)

/-- The gather buffer of device `c`. -/
abbrev gLoc (c : Dev nD) : Loc nD τ sig := (c : Thread nD τ).loc cc0_scratch0

/-- The elements of slot `b`: those whose first coordinate is `b`. -/
def slotSet (b : Dev nD) : Finset S16x128x64.Idx := Finset.univ.filter fun i => (i 0).val = b.val

theorem mem_slotSet {b : Dev nD} {i : S16x128x64.Idx} : i ∈ slotSet b ↔ (i 0).val = b.val := by simp [slotSet]

/-- A rectangle of one slot covers that slot. -/
theorem unit_slot_set (b : Dev nD) (off : Fin 3 → ℕ) (h : off = ![b.val, 0, 0]) (inb) :
    (Rect.unit (s := S16x128x64) off S1x128x64.size inb).set = slotSet b := by
  subst h
  ext i
  rw [Rect.mem_set_unit, mem_slotSet]
  constructor
  · intro hi
    have h0 := hi 0
    simp only [Matrix.cons_val_zero] at h0
    have : S1x128x64.size 0 = 1 := rfl
    omega
  · intro hi a
    fin_cases a
    · have : S1x128x64.size 0 = 1 := rfl
      simp only [Fin.zero_eta, Matrix.cons_val_zero]; omega
    · exact ⟨Nat.zero_le _, by simpa using (i 1).isLt⟩
    · exact ⟨Nat.zero_le _, by simpa using (i 2).isLt⟩

theorem slotM_set (b : Dev nD) : (slotM b).view.set = slotSet b := by
  show (((gM.slice _ _).view).reshape _ _).set = _
  rw [View.set_reshape]
  show (View.slice (View.whole cc0_scratch0) _).set = _
  rw [View.set_slice_whole]
  exact unit_slot_set b _ (k0_off2_eq b) _

theorem slotR_set (b : Dev nD) : (gM.access (slotR b)).setOn Finset.univ = slotSet b := by
  show (View.slice (View.whole cc0_scratch0) _).set = _
  rw [View.set_slice_whole]
  exact unit_slot_set b _ (k0_off1_eq b) _

theorem slotSet_disjoint {a b : Dev nD} (h : a ≠ b) : Disjoint (slotSet a) (slotSet b) := by
  rw [Finset.disjoint_left]
  intro i ha hb
  exact h (Fin.ext ((mem_slotSet.mp ha).symm.trans (mem_slotSet.mp hb)))

theorem slotSet_cover : (Finset.univ : Finset (Dev nD)).biUnion slotSet = Finset.univ := by
  ext i
  simp only [Finset.mem_biUnion, Finset.mem_univ, true_and, iff_true]
  exact ⟨⟨(i 0).val, (i 0).isLt⟩, mem_slotSet.mpr rfl⟩

/-- Slot `b` of device `c`'s gather buffer at share `q`, with contents `f` there. -/
def slot (c b : Dev nD) (q : PosShare TreeShare) (f : Gath F) : sProp 𝕄 := gLoc c ↦[slotSet b]{q} f

instance slot_storable (c b : Dev nD) (q) (f : Gath F) : BI.Storable (upEmb : UEmb _ 𝕄) (slot (F := F) c b q f) := by
  unfold slot; infer_instance

/-- A slot's ownership depends on the contents there only. -/
theorem slot_congr (c b : Dev nD) (q) {f g : Gath F} (h : ∀ i ∈ slotSet b, f i = g i) : (slot c b q f : sProp 𝕄) = slot c b q g :=
  pointsTo_congr h

/-- Writing through a view what the view reads of `G` leaves `G` under the view. -/
theorem write_read_eq {sp s e} (v : View sig .tc sp s e) (fd G : v.ty.Contents (Elt F)) :
    ∀ i ∈ v.set, v.write (Elt F) fd (v.read (Elt F) G) Finset.univ i = G i := by
  intro i hi
  obtain ⟨x, -, rfl⟩ := Finset.mem_map.mp hi
  rw [View.write_emb_of_mem _ _ (Finset.mem_univ x), View.read_apply, cast_cast, cast_eq]

/-! ## The cells -/

/-- The runtime's barrier semaphore. -/
abbrev barS : Sem sig := (SemArray.scalar (sig.barrier 0 rfl) : Sems sig S_).sem

set_option backward.proofsInPublic true in
/-- The `k`-th send semaphore and the `k`-th receive semaphore. -/
def sendS (k : Fin 15) : DmaSem sig := ⟨2 + k.val, by have := k.isLt; have : sig.nDmaSem = 32 := rfl; omega⟩
set_option backward.proofsInPublic true in
def recvS (k : Fin 15) : DmaSem sig := ⟨17 + k.val, by have := k.isLt; have : sig.nDmaSem = 32 := rfl; omega⟩

/-- Which of a device's cells: its barrier's, its `k`-th send cell, its `k`-th receive cell. -/
abbrev Kind : Type := Unit ⊕ (Fin 15 ⊕ Fin 15)

/-- The kernel's own semaphores: the sends' and the receives'. -/
def osem : Fin 15 ⊕ Fin 15 → SemLoc sig
  | .inl k => .dma (sendS k)
  | .inr k => .dma (recvS k)
/-- All the exchange's semaphores. -/
def csem : Kind → SemLoc sig
  | .inl _ => .reg barS
  | .inr x => osem x

set_option backward.proofsInPublic true in
/-- The kind of a semaphore, if the exchange uses it. -/
def kindOf : SemLoc sig → Option Kind
  | .reg s => if s = barS then some (.inl ()) else none
  | .dma q => if h : 2 ≤ q.val ∧ q.val < 17 then some (.inr (.inl ⟨q.val - 2, by omega⟩))
      else if h : 17 ≤ q.val ∧ q.val < 32 then some (.inr (.inr ⟨q.val - 17, by omega⟩)) else none

theorem kindOf_csem (x : Kind) : kindOf (csem x) = some x := by revert x; decide

/-- The cell of kind `x` on device `c`. -/
abbrev kcell (ck : Dev nD × Kind) : GSem nD τ sig := ((ck.1 : Thread nD τ), csem ck.2)
abbrev barCell (c : Dev nD) : GSem nD τ sig := ((c : Thread nD τ), .reg barS)
abbrev sendCell (c : Dev nD) (k : Fin 15) : GSem nD τ sig := ((c : Thread nD τ), .dma (sendS k))
abbrev recvCell (c : Dev nD) (k : Fin 15) : GSem nD τ sig := ((c : Thread nD τ), .dma (recvS k))

theorem kindOf_bar : kindOf (.reg barS) = some (.inl ()) := kindOf_csem (.inl ())
theorem kindOf_send (k : Fin 15) : kindOf (.dma (sendS k)) = some (.inr (.inl k)) := kindOf_csem (.inr (.inl k))
theorem kindOf_recv (k : Fin 15) : kindOf (.dma (recvS k)) = some (.inr (.inr k)) := kindOf_csem (.inr (.inr k))

/-- What one transfer moves, as its semaphores count it. -/
abbrev N : ℕ := (cc0_scratch0 : Ref sig .tc).dmaCredit S128x64 .bf16
theorem slotM_credit (c : Dev nD) : (slotM c).view.dmaCredit = N := rfl
theorem N_pos : 0 < N := by rw [← slotM_credit 0]; exact View.dmaCredit_pos _ (by decide)

/-! ## The schedule -/

variable (G : Gath F)

/-- What duty `k` of `c`'s barrier hands `c`: the slot `c` of the device whose `k`-th signal goes to `c`. -/
def barPay (c : Dev nD) (k : Fin 15) : sProp 𝕄 := iprop(∃ f, slot (nx k.rev c) c fullShare f)
/-- What the `k`-th send cell hands back: the share of the own slot the transfer read. -/
def sendPay (c : Dev nD) (k : Fin 15) : sProp 𝕄 := slot c c (shareTok fullShare 15 k) G
/-- What the `k`-th receive cell hands over: the slot of the device `k + 1` places before, filled. -/
def recvPay (c : Dev nD) (k : Fin 15) : sProp 𝕄 := slot c (nx k.rev c) fullShare G

instance barPay_storable (c : Dev nD) (k) : BI.Storable (upEmb : UEmb _ 𝕄) (barPay (F := F) c k) := by unfold barPay; infer_instance
instance sendPay_storable (c : Dev nD) (k) : BI.Storable (upEmb : UEmb _ 𝕄) (sendPay (F := F) G c k) := by unfold sendPay; infer_instance
instance recvPay_storable (c : Dev nD) (k) : BI.Storable (upEmb : UEmb _ 𝕄) (recvPay (F := F) G c k) := by unfold recvPay; infer_instance

/-- The duties of one cell by kind: all fifteen at a barrier, one (named `0`) at a send or receive cell. -/
def kindDuties : Option Kind → Finset (Fin 15)
  | some (.inl _) => Finset.univ
  | some (.inr _) => {0}
  | none => ∅
/-- The payloads by kind. -/
def kindPay (c : Dev nD) (d : Fin 15) : Option Kind → sProp 𝕄
  | some (.inl _) => barPay c d
  | some (.inr (.inl k)) => sendPay G c k
  | some (.inr (.inr k)) => recvPay G c k
  | none => iprop(emp)
/-- The amounts by kind. -/
def kindAmount : Option Kind → ℕ
  | some (.inl _) => 1
  | _ => N

/-- One round on every cell of the exchange. -/
def ringRd : Rounds.Schedule (GSem nD τ sig) (Fin 15) 𝕄 where
  duties g r := if r = 0 ∧ g.1.2 = .tc then kindDuties (kindOf g.2) else ∅
  unitless _ := False
  amount g _ _ := kindAmount (kindOf g.2)
  payload g _ d := kindPay G g.1.1 d (kindOf g.2)
  amount_pos g _ _ _ := by
    unfold kindAmount; split
    · exact Nat.one_pos
    · exact N_pos

instance ringRd_payload_storable (g : GSem nD τ sig) (r : ℕ) (d : Fin 15) :
    BI.Storable (upEmb : UEmb _ 𝕄) ((ringRd (F := F) G).payload g r d) := by
  show BI.Storable upEmb (kindPay G g.1.1 d (kindOf g.2))
  unfold kindPay
  split <;> infer_instance

section Sched
variable (c : Dev nD) (k : Fin 15)

theorem duties_bar : (ringRd (F := F) G).duties (barCell c) 0 = Finset.univ := by
  dsimp only [ringRd]; rw [if_pos ⟨rfl, rfl⟩, kindOf_bar]; rfl
theorem duties_send : (ringRd (F := F) G).duties (sendCell c k) 0 = {0} := by
  dsimp only [ringRd]; rw [if_pos ⟨rfl, rfl⟩, kindOf_send]; rfl
theorem duties_recv : (ringRd (F := F) G).duties (recvCell c k) 0 = {0} := by
  dsimp only [ringRd]; rw [if_pos ⟨rfl, rfl⟩, kindOf_recv]; rfl
theorem duties_later (g : GSem nD τ sig) : ∀ r, 1 ≤ r → (ringRd (F := F) G).duties g r = ∅ :=
  fun r hr => by dsimp only [ringRd]; rw [if_neg fun h => by omega]

theorem amount_bar (d : Fin 15) : (ringRd (F := F) G).amount (barCell c) 0 d = 1 := by dsimp only [ringRd]; rw [kindOf_bar]; rfl
theorem amount_send (d : Fin 15) : (ringRd (F := F) G).amount (sendCell c k) 0 d = N := by dsimp only [ringRd]; rw [kindOf_send]; rfl
theorem amount_recv (d : Fin 15) : (ringRd (F := F) G).amount (recvCell c k) 0 d = N := by dsimp only [ringRd]; rw [kindOf_recv]; rfl

theorem expect_bar : (ringRd (F := F) G).expect (barCell c) 0 = 15 := by
  unfold Schedule.expect Schedule.amountOf
  rw [duties_bar, Finset.sum_congr rfl fun d _ => amount_bar G c d, Finset.sum_const, Finset.card_univ, Fintype.card_fin, smul_eq_mul]
theorem expect_send : (ringRd (F := F) G).expect (sendCell c k) 0 = N := by
  unfold Schedule.expect Schedule.amountOf; rw [duties_send, Finset.sum_singleton, amount_send]
theorem expect_recv : (ringRd (F := F) G).expect (recvCell c k) 0 = N := by
  unfold Schedule.expect Schedule.amountOf; rw [duties_recv, Finset.sum_singleton, amount_recv]

theorem payload_bar (d : Fin 15) : (ringRd (F := F) G).payload (barCell c) 0 d = barPay c d := by dsimp only [ringRd]; rw [kindOf_bar]; rfl
theorem payload_send (d : Fin 15) : (ringRd (F := F) G).payload (sendCell c k) 0 d = sendPay G c k := by
  dsimp only [ringRd]; rw [kindOf_send]; rfl
theorem payload_recv (d : Fin 15) : (ringRd (F := F) G).payload (recvCell c k) 0 d = recvPay G c k := by
  dsimp only [ringRd]; rw [kindOf_recv]; rfl

/-- All the payloads of a barrier's round. -/
theorem rest_bar : bigSep ((ringRd (F := F) G).duties (barCell c) 0 \ ∅) (fun d => (ringRd (F := F) G).payload (barCell c) 0 d)
    = bigSep Finset.univ fun d => barPay (F := F) c d := by
  rw [Finset.sdiff_empty, duties_bar]; exact bigSep_congr fun d _ => payload_bar G c d
theorem rest_send : bigSep ((ringRd (F := F) G).duties (sendCell c k) 0 \ ∅) (fun d => (ringRd (F := F) G).payload (sendCell c k) 0 d)
    = sendPay G c k := by
  rw [Finset.sdiff_empty, duties_send, bigSep_singleton, payload_send]
theorem rest_recv : bigSep ((ringRd (F := F) G).duties (recvCell c k) 0 \ ∅) (fun d => (ringRd (F := F) G).payload (recvCell c k) 0 d)
    = recvPay G c k := by
  rw [Finset.sdiff_empty, duties_recv, bigSep_singleton, payload_recv]

end Sched

/-! ## What a device owes, and the levels -/

/-- The steps not taken yet after `n` of the fifteen, and those taken. -/
def rest (n : ℕ) : Finset (Fin 15) := Finset.univ.filter fun k => n ≤ k.val
def done (n : ℕ) : Finset (Fin 15) := Finset.univ.filter fun k => k.val < n

theorem rest_zero : rest 0 = Finset.univ := by decide
theorem rest_last : rest 15 = ∅ := by decide
theorem done_zero : done 0 = ∅ := by decide
theorem done_last : done 15 = Finset.univ := by decide
theorem rest_step (k : Fin 15) : rest k.val = insert k (rest (k.val + 1)) := by revert k; decide
theorem rest_fresh (k : Fin 15) : k ∉ rest (k.val + 1) := by revert k; decide
theorem done_step (k : Fin 15) : done (k.val + 1) = insert k (done k.val) := by revert k; decide
theorem done_fresh (k : Fin 15) : k ∉ done k.val := by revert k; decide

/-- What `c` owes the receive cells before its `n`-th transfer, -/
def oweR (c : Dev nD) (n : ℕ) : CellTallies nD τ sig Unit := ∑ k ∈ rest n, tallyAt (recvCell (nx k c) k) () N
/-- and the barrier cells beside them before its `n`-th signal. -/
def oweB (c : Dev nD) (n : ℕ) : CellTallies nD τ sig Unit := oweR c 0 + ∑ k ∈ rest n, tallyAt (barCell (nx k c)) () 1

theorem oweR_step (c : Dev nD) (k : Fin 15) : oweR c k.val = oweR c (k.val + 1) + tallyAt (recvCell (nx k c) k) () N := by
  unfold oweR; rw [rest_step, Finset.sum_insert (rest_fresh k), add_comm]
theorem oweB_step (c : Dev nD) (k : Fin 15) : oweB c k.val = oweB c (k.val + 1) + tallyAt (barCell (nx k c)) () 1 := by
  unfold oweB; rw [rest_step k, Finset.sum_insert (rest_fresh k), add_comm (tallyAt _ _ _), add_assoc]
theorem oweR_last (c : Dev nD) : oweR c 15 = 0 := by unfold oweR; rw [rest_last, Finset.sum_empty]
theorem oweB_last (c : Dev nD) : oweB c 15 = oweR c 0 := by unfold oweB; rw [rest_last, Finset.sum_empty, add_zero]

theorem sum_tally_pos {S : Finset (Fin 15)} {f : Fin 15 → GSem nD τ sig} {a : ℕ} {g : GSem nD τ sig} {u : Unit}
    (h : 0 < (∑ k ∈ S, tallyAt (f k) () a : CellTallies nD τ sig Unit) g u) : ∃ k, g = f k := by
  by_contra hn
  rw [not_exists] at hn
  rw [Finset.sum_apply, Finsupp.finsetSum_apply, Finset.sum_eq_zero fun k _ => ?_] at h
  · exact Nat.lt_irrefl 0 h
  · rw [tallyAt_apply, if_neg fun h' => hn k h'.1]

theorem oweR_pos {c : Dev nD} {n : ℕ} {g : GSem nD τ sig} {u : Unit} (h : 0 < oweR c n g u) : ∃ k, g = recvCell (nx k c) k :=
  sum_tally_pos h
theorem oweB_pos {c : Dev nD} {n : ℕ} {g : GSem nD τ sig} {u : Unit} (h : 0 < oweB c n g u) :
    (∃ k, g = recvCell (nx k c) k) ∨ ∃ k, g = barCell (nx k c) := by
  unfold oweB at h
  rw [Pi.add_apply, Finsupp.add_apply] at h
  rcases Nat.add_pos_iff_pos_or_pos.mp h with h' | h'
  · exact Or.inl (oweR_pos h')
  · exact Or.inr (sum_tally_pos h')

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- Barrier cells at level 1, receive cells at 2, everything else at 0. -/
def kindLv : Option Kind → ℕ
  | some (.inl _) => 1
  | some (.inr (.inr _)) => 2
  | _ => 0
def lv (g : GSem nD τ sig) (_ : Unit) : ℕ := kindLv (kindOf g.2)

theorem lv_bar (c : Dev nD) : lv (barCell c) () = 1 := by unfold lv; rw [kindOf_bar]; rfl
theorem lv_recv (c : Dev nD) (k : Fin 15) : lv (recvCell c k) () = 2 := by unfold lv; rw [kindOf_recv]; rfl

/-- A device may wait on a staging semaphore whatever it owes. -/
theorem mayWait_stage (c : Dev nD) (q : DmaSem sig) (hq : kindOf (.dma q) = none) (O : CellTallies nD τ sig Unit)
    (hO : O = oweB c 0 ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweB_pos hg with ⟨k, rfl⟩ | ⟨k, rfl⟩ <;> exact Finset.mem_singleton_self _)
      (fun p hp => by rw [Finset.mem_singleton.mp hp]; dsimp only [lv]; rw [hq]; exact Nat.le_refl 0)
      (fun g u hg => by
        rcases oweB_pos hg with ⟨k, rfl⟩ | ⟨k, rfl⟩
        · rw [lv_recv]; decide
        · rw [lv_bar]; decide)
  · rw [MayWait_zero]; iintro -; iempintro

/-- A device may wait on its barrier while it owes receive cells only. -/
theorem mayWait_bar (c : Dev nD) (n : ℕ) : (levAts L lv : sProp 𝕄) ⊢ MayWait (c : Thread nD τ) (.reg barS) () (oweR c n) :=
  MayOwe.of_cut (L := L) (lev := lv) 1 (fun p hp => by rw [Finset.mem_singleton.mp hp, L_tc]; exact Finset.mem_singleton_self _)
    (fun g u hg => by obtain ⟨k, rfl⟩ := oweR_pos hg; exact Finset.mem_singleton_self _)
    (fun p hp => by rw [Finset.mem_singleton.mp hp, lv_bar])
    (fun g u hg => by obtain ⟨k, rfl⟩ := oweR_pos hg; rw [lv_recv]; decide)

end Cert.SortProof

end
-- ==== Proof.Steps.lean ====
/-
# The four kinds of step of the exchange

Fifteen signals, fifteen transfers, fifteen waits for arrivals and fifteen waits for the own transfers. For each kind:
what the device holds after `n` of its fifteen steps, and the rule taking it from `n` to `n + 1`.
-/
module

public import proofs.«01_k».proof.Proof.Ring

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

abbrev 𝒱₀ : Variants := Variants.none

/-- The weakest precondition of device `c`'s program. -/
abbrev exec {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (G : Gath F) (K : Dev nD × Kind → ℕ)

/-- Every cell's invariant, and that every cell has reached its round: known to every device throughout. -/
def records : sProp 𝕄 :=
  iprop((bigSep Finset.univ fun ck : Dev nD × Kind => cellInv EX (ringRd G) (K ck) (kcell ck))
    ∗ bigSep Finset.univ fun ck : Dev nD × Kind => reached EX (kcell ck) 0)

instance records_persistent : BI.Persistent (records G K) := by unfold records; infer_instance

/-- One cell's invariant and mark, out of all. -/
theorem record_at (ck : Dev nD × Kind) : records G K ⊢ iprop(cellInv EX (ringRd G) (K ck) (kcell ck) ∗ reached EX (kcell ck) 0) := by
  unfold records
  iintro ⟨#H, #R⟩
  isplitr
  · iapply (show (bigSep Finset.univ fun ck : Dev nD × Kind => (cellInv EX (ringRd G) (K ck) (kcell ck) : sProp 𝕄)) ⊢ _ from
      bigSep_elim (Finset.mem_univ ck)); iexact H
  · iapply (show (bigSep Finset.univ fun ck : Dev nD × Kind => (reached EX (kcell ck) 0 : sProp 𝕄)) ⊢ _ from
      bigSep_elim (Finset.mem_univ ck)); iexact R

theorem record_bar (c : Dev nD) : records G K ⊢ iprop(cellInv EX (ringRd G) (K (c, .inl ())) (barCell c) ∗ reached EX (barCell c) 0) :=
  record_at G K (c, .inl ())
theorem record_send (c : Dev nD) (k : Fin 15) :
    records G K ⊢ iprop(cellInv EX (ringRd G) (K (c, .inr (.inl k))) (sendCell c k) ∗ reached EX (sendCell c k) 0) :=
  record_at G K (c, .inr (.inl k))
theorem record_recv (c : Dev nD) (k : Fin 15) :
    records G K ⊢ iprop(cellInv EX (ringRd G) (K (c, .inr (.inr k))) (recvCell c k) ∗ reached EX (recvCell c k) 0) :=
  record_at G K (c, .inr (.inr k))

/-- Taking the next step's share off what is kept for the steps not taken. -/
theorem rest_take (n : ℕ) (hn : n < 15) (Φ : Fin 15 → sProp 𝕄) :
    bigSep (rest n) Φ = iprop(Φ ⟨n, hn⟩ ∗ bigSep (rest (n + 1)) Φ) := by
  rw [show rest n = insert ⟨n, hn⟩ (rest (n + 1)) from rest_step ⟨n, hn⟩]
  exact BI.bigSep_insert (rest_fresh ⟨n, hn⟩)

/-- Adding a step's result to those of the steps taken. -/
theorem done_add (n : ℕ) (hn : n < 15) (Φ : Fin 15 → sProp 𝕄) :
    bigSep (done (n + 1)) Φ = iprop(Φ ⟨n, hn⟩ ∗ bigSep (done n) Φ) := by
  rw [show done (n + 1) = insert ⟨n, hn⟩ (done n) from done_step ⟨n, hn⟩]
  exact BI.bigSep_insert (done_fresh ⟨n, hn⟩)

/-! ## Signals -/

/-- After `n` signals: what is owed still, and for each signal to come its token and the slot it hands over. -/
def sigSt (c : Dev nD) (n : ℕ) : sProp 𝕄 :=
  iprop((∃ W, owes (c : Thread nD τ) (oweB c n) W)
    ∗ bigSep (rest n) fun k => iprop(dutyTok EX (barCell (nx k c)) 0 k ∗ ∃ f, slot c (nx k c) fullShare f))

theorem signal_step (c d : Dev nD) (n : ℕ) (hn : n < 15) (hd : d = nx ⟨n, hn⟩ c) {a : ℤ} (ha : a = ((1 : ℕ) : ℤ))
    {α : Type} {Q : α → sProp 𝕄} {k : PUnit → Prog (TpuEff nD τ sig (Elt F) Λ₀ .tc) α} :
    iprop(records G K ∗ sigSt c n)
      ⊢ iprop((sigSt c (n + 1) -∗ exec c (k ⟨⟩) Q) -∗ exec c (.op (.semSignal (d, .tc) barS a) k) Q) := by
  subst hd; subst ha
  unfold sigSt
  rw [rest_take n hn]
  iintro ⟨#HR, ⟨%W, HO⟩, ⟨Ht, ⟨%f, Hf⟩⟩, Hrest⟩ Hk
  ihave Hc := (record_bar G K (nx ⟨n, hn⟩ c)) $$ HR
  icases Hc with ⟨#HI, #Hm⟩
  iapply (Rounds.wp_signal 𝒱₀ EX (ringRd G) (c : Thread nD τ) none (dst := (nx ⟨n, hn⟩ c : Thread nD τ))
      (d := (⟨n, hn⟩ : Fin 15)) (by rw [duties_bar]; exact Finset.mem_univ _) (amount_bar G (nx ⟨n, hn⟩ c) ⟨n, hn⟩) ()
      (oweB c (n + 1)) (oweB_step c ⟨n, hn⟩)) $$ [HO Ht Hf]
  · isplitr; · iexact HI
    isplitl [HO]; · iexact HO
    isplitl [Ht]; · iexact Ht
    isplitl [Hf]
    · rw [payload_bar]; unfold barPay; rw [nx_rev_nx]
      iexists f; iexact Hf
    iexact Hm
  iintro HO
  iapply Hk
  isplitl [HO]; · iexists W; iexact HO
  iexact Hrest

/-! ## Transfers -/

/-- After `n` transfers: what is owed still, for each to come its two tokens, the share of the own slot it reads and the
    slot it writes, and for each issued the credit on its send cell. -/
def sendSt (c : Dev nD) (n : ℕ) : sProp 𝕄 :=
  iprop((∃ W, owes (c : Thread nD τ) (oweR c n) W)
    ∗ (bigSep (rest n) fun k => iprop((dutyTok EX (sendCell c k) 0 0 ∗ dutyTok EX (recvCell (nx k c) k) 0 0)
        ∗ slot c c (shareTok fullShare 15 k) G ∗ ∃ f, slot (nx k c) c fullShare f))
    ∗ bigSep (done n) fun k => cred (tallyAt (sendCell c k) () N))

theorem send_step (c d : Dev nD) (n : ℕ) (hn : n < 15) (hd : d = nx ⟨n, hn⟩ c) {sS rS : DmaSem sig}
    (hs : sS = sendS ⟨n, hn⟩) (hr : rS = recvS ⟨n, hn⟩)
    {hsc : (slotM c : Memref sig (Dev.tc d : Thread nD τ).2.kind .vmem S128x64 .bf16).view.ref.isScScratch = false}
    {hsrc : (slotM c).view.WordExact} {hdst : (slotM c).view.WordExact}
    {hsem : DmaTarget.Typed .vmem (.dma rS) (.remote (Dev.tc d : Thread nD τ) (slotM c) (.dma sS) hsc)}
    {α : Type} {Q : α → sProp 𝕄} {k : PUnit → Prog (TpuEff nD τ sig (Elt F) Λ₀ .tc) α} :
    iprop(records G K ∗ sendSt G c n)
      ⊢ iprop((sendSt G c (n + 1) -∗ exec c (k ⟨⟩) Q)
          -∗ exec c (.op (.enqueueDma (slotM c) (.remote (Dev.tc d : Thread nD τ) (slotM c) (.dma sS) hsc) (.dma rS) hsrc hdst hsem) k) Q) := by
  subst hd; subst hs; subst hr
  unfold sendSt
  rw [rest_take n hn, done_add n hn]
  iintro ⟨#HR, ⟨%W, HO⟩, ⟨⟨⟨Hts, Htr⟩, Hsrc, ⟨%f, Hdst⟩⟩, Hrest⟩, Hcr⟩ Hk
  ihave Hc := (record_send G K c ⟨n, hn⟩) $$ HR
  icases Hc with ⟨#HI1, #Hm1⟩
  ihave Hc := (record_recv G K (nx ⟨n, hn⟩ c) ⟨n, hn⟩) $$ HR
  icases Hc with ⟨#HI2, #Hm2⟩
  iapply (Rounds.wp_send_pointsTo 𝒱₀ EX (ringRd G) (c : Thread nD τ) none (c' := (nx ⟨n, hn⟩ c : Thread nD τ)) (q := shareTok fullShare 15 ⟨n, hn⟩) (fs := G) (fd := f)
      (r₁ := 0) (r₂ := 0) (d₁ := 0) (d₂ := 0)
      (by rw [duties_send]; exact Finset.mem_singleton_self _) (by rw [duties_recv]; exact Finset.mem_singleton_self _)
      () () N rfl (amount_send G c ⟨n, hn⟩ 0) (amount_recv G (nx ⟨n, hn⟩ c) ⟨n, hn⟩ 0) (oweR c (n + 1)) (oweR_step c ⟨n, hn⟩) (W := W)
      (by rw [payload_send, slotM_set]; unfold sendPay slot; exact BI.Entails.refl _)
      (by
        rw [payload_recv]; unfold recvPay slot; rw [nx_rev_nx, pointsTo_congr (write_read_eq (slotM c).view f G), slotM_set]))
    $$ [Hsrc Hdst HO Hts Htr]
  · isplitr; · iexact HI1
    isplitr; · iexact HI2
    rw [slotM_set]
    unfold slot
    isplitl [Hsrc]; · iexact Hsrc
    isplitl [Hdst]; · iexact Hdst
    isplitl [HO]; · iexact HO
    isplitl [Hts]; · iexact Hts
    isplitr; · iexact Hm1
    isplitl [Htr]; · iexact Htr
    iexact Hm2
  iintro ⟨Hc, HO⟩
  iapply Hk
  isplitl [HO]; · iexists W; iexact HO
  isplitl [Hrest]; · iexact Hrest
  isplitl [Hc] <;> iassumption

/-! ## Waits on the fifteen send or receive cells -/

/-- After `n` waits on the cells `s` (the send cells or the receive cells), nothing owed: for each to come its credit and
    the cell's position, for each done the cell's next position and its payload. -/
def waitSt (s : Fin 15 → DmaSem sig) (pay : Fin 15 → sProp 𝕄) (c : Dev nD) (n : ℕ) : sProp 𝕄 :=
  iprop((∃ W, owes (c : Thread nD τ) 0 W)
    ∗ (bigSep (rest n) fun k => iprop(cred (tallyAt ((c : Thread nD τ), .dma (s k)) () N) ∗ atPos EX ((c : Thread nD τ), .dma (s k)) 0 ∅ 0))
    ∗ bigSep (done n) fun k => iprop(atPos EX ((c : Thread nD τ), .dma (s k)) 1 ∅ 0 ∗ pay k))

theorem wait_step (s : Fin 15 → DmaSem sig) (pay : Fin 15 → sProp 𝕄) (c : Dev nD) (n : ℕ) (hn : n < 15) (κ : ℕ)
    (hexp : (ringRd (F := F) G).expect ((c : Thread nD τ), .dma (s ⟨n, hn⟩)) 0 = N)
    (hpay : bigSep ((ringRd (F := F) G).duties ((c : Thread nD τ), .dma (s ⟨n, hn⟩)) 0 \ ∅)
      (fun d => (ringRd (F := F) G).payload ((c : Thread nD τ), .dma (s ⟨n, hn⟩)) 0 d) = pay ⟨n, hn⟩)
    {q : DmaSem sig} (hq : q = s ⟨n, hn⟩) {hsrc : (slotM c).view.WordExact} {hdst : (slotM c).view.WordExact}
    {α : Type} {Q : α → sProp 𝕄} {k : PUnit → Prog (TpuEff nD τ sig (Elt F) Λ₀ .tc) α} :
    iprop(cellInv EX (ringRd G) κ ((c : Thread nD τ), .dma (s ⟨n, hn⟩)) ∗ waitSt s pay c n)
      ⊢ iprop((waitSt s pay c (n + 1) -∗ exec c (k ⟨⟩) Q)
          -∗ exec c (.op (.waitDma2 q (slotM c) (slotM c) hsrc hdst) k) Q) := by
  subst hq
  unfold waitSt
  rw [rest_take n hn, done_add n hn]
  iintro ⟨#HI, ⟨%W, HO⟩, ⟨⟨Hc, Hat⟩, Hrest⟩, Hdone⟩ Hk
  iapply (Rounds.wp_wait_rest_token 𝒱₀ EX (ringRd G) (c : Thread nD τ) none (κ := κ)
      (wpE_waitDma2_eq 𝒱₀ (c : Thread nD τ) none Set.univ) (Set.mem_univ _) () (O := 0) (W := W) (R := 0) (m := 0) (T := ∅)
      (by rw [Nat.zero_add, hexp])) $$ [Hc HO Hat]
  · isplitr; · iexact HI
    isplitl [Hc]; · iexact Hc
    isplitl [HO]; · iexact HO
    isplitr; · rw [MayWait_zero]; iempintro
    iexact Hat
  iintro ⟨HO, Hat, -, Hp⟩
  ihave Hp := (Entails.of_eq hpay) $$ Hp
  iapply Hk
  isplitl [HO]; · iexists _; iexact HO
  isplitl [Hrest]; · iexact Hrest
  isplitl [Hat Hp]
  · isplitl [Hat] <;> iassumption
  iexact Hdone

/-- After `n` waits for arrivals. -/
abbrev recvSt (c : Dev nD) (n : ℕ) : sProp 𝕄 := waitSt recvS (recvPay G c) c n
/-- After `n` waits for the own transfers. -/
abbrev sentSt (c : Dev nD) (n : ℕ) : sProp 𝕄 := waitSt sendS (sendPay G c) c n

theorem recv_step (c : Dev nD) (n : ℕ) (hn : n < 15) {q : DmaSem sig} (hq : q = recvS ⟨n, hn⟩)
    {hsrc : (slotM c).view.WordExact} {hdst : (slotM c).view.WordExact}
    {α : Type} {Q : α → sProp 𝕄} {k : PUnit → Prog (TpuEff nD τ sig (Elt F) Λ₀ .tc) α} :
    iprop(records G K ∗ recvSt G c n)
      ⊢ iprop((recvSt G c (n + 1) -∗ exec c (k ⟨⟩) Q) -∗ exec c (.op (.waitDma2 q (slotM c) (slotM c) hsrc hdst) k) Q) := by
  iintro ⟨#HR, Hs⟩ Hk
  ihave Hc := (record_recv G K c ⟨n, hn⟩) $$ HR
  icases Hc with ⟨#HI, -⟩
  iapply (wait_step G recvS (recvPay G c) c n hn (K (c, .inr (.inr ⟨n, hn⟩))) (expect_recv G c ⟨n, hn⟩)
    (rest_recv G c ⟨n, hn⟩) hq) $$ [Hs]
  · isplitr; · iexact HI
    iexact Hs
  iexact Hk

theorem sent_step (c : Dev nD) (n : ℕ) (hn : n < 15) {q : DmaSem sig} (hq : q = sendS ⟨n, hn⟩)
    {hsrc : (slotM c).view.WordExact} {hdst : (slotM c).view.WordExact}
    {α : Type} {Q : α → sProp 𝕄} {k : PUnit → Prog (TpuEff nD τ sig (Elt F) Λ₀ .tc) α} :
    iprop(records G K ∗ sentSt G c n)
      ⊢ iprop((sentSt G c (n + 1) -∗ exec c (k ⟨⟩) Q) -∗ exec c (.op (.waitDma2 q (slotM c) (slotM c) hsrc hdst) k) Q) := by
  iintro ⟨#HR, Hs⟩ Hk
  ihave Hc := (record_send G K c ⟨n, hn⟩) $$ HR
  icases Hc with ⟨#HI, -⟩
  iapply (wait_step G sendS (sendPay G c) c n hn (K (c, .inr (.inl ⟨n, hn⟩))) (expect_send G c ⟨n, hn⟩)
    (rest_send G c ⟨n, hn⟩) hq) $$ [Hs]
  · isplitr; · iexact HI
    iexact Hs
  iexact Hk

/-- After its fifteen waits, the cells close: their counters at zero are the device's again, with all the payloads. -/
theorem wait_close (s : Fin 15 → DmaSem sig) (pay : Fin 15 → sProp 𝕄) (c : Dev nD)
    (hinv : ∀ k, records G K ⊢ iprop(∃ κ : ℕ, cellInv EX (ringRd G) κ ((c : Thread nD τ), .dma (s k)))) :
    iprop(records G K ∗ waitSt s pay c 15)
      ⊢ |={Set.univ}=> iprop((∃ W, owes (c : Thread nD τ) 0 W) ∗ (bigSep Finset.univ fun k => semVal ((c : Thread nD τ), .dma (s k)) 0)
          ∗ bigSep Finset.univ pay) := by
  unfold waitSt
  rw [done_last, rest_last]
  simp only [bigSep_sep']
  iintro ⟨#HR, HO, -, Hat, Hp⟩
  imod (show iprop(records G K ∗ bigSep Finset.univ fun k : Fin 15 => atPos EX ((c : Thread nD τ), .dma (s k)) 1 ∅ 0)
      ⊢ (|={Set.univ}=> bigSep Finset.univ fun k : Fin 15 => semVal ((c : Thread nD τ), .dma (s k)) 0 : sProp 𝕄) from by
        refine (sep_mono_left (BI.bigSep_of_persistent (Finset.univ : Finset (Fin 15)) (records G K))).trans ?_
        rw [← bigSep_sep']
        refine (bigSep_mono fun k _ => show iprop(records G K ∗ atPos EX ((c : Thread nD τ), .dma (s k)) 1 ∅ 0)
          ⊢ iprop(|={Set.univ}=> semVal ((c : Thread nD τ), .dma (s k)) 0) from ?_).trans (bigSep_fupd _ _)
        iintro ⟨#HR, Hat⟩
        ihave HI := (hinv k) $$ HR
        icases HI with ⟨%κ, #HI⟩
        iapply (Rounds.cell_close EX (ringRd G) (Set.mem_univ κ) (fun h => h) (R := 1) (duties_later G _))
        isplitr; · iexact HI
        iexact Hat) $$ [Hat] with Hz
  · isplitr; · iexact HR
    iexact Hat
  imodintro
  isplitl [HO]; · iexact HO
  isplitl [Hz] <;> iassumption

end Cert.SortProof

end
-- ==== Proof.Slots.lean ====
/-
# Slots of the gather buffer put together and taken apart

The whole buffer is the device's own slot and the fifteen others; a slot's full share is a remainder and fifteen shares for
the transfers to read through. The load of the whole buffer happens while those fifteen shares are still lent out: it reads
through the remainder, taken off every slot.
-/
module

public import proofs.«01_k».proof.Proof.Steps
public import Idealize.ShloMosaic.Lib.Ring

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

open Cert.KernelIdeal (cc0_scratch2 cc0_scratch3)

/-- The send and the receive semaphores as the body names them. -/
theorem send_sem (k : Fin 15) (inb) :
    ((cc0_scratch2.slice (Rect.unit (s := S15) ![k.val] S1.size inb)).squeeze S_ squeezes_S1_S_).sem = sendS k := by
  revert inb; revert k; decide
theorem recv_sem (k : Fin 15) (inb) :
    ((cc0_scratch3.slice (Rect.unit (s := S15) ![k.val] S1.size inb)).squeeze S_ squeezes_S1_S_).sem = recvS k := by
  revert inb; revert k; decide

/-- All devices: this one and the fifteen others. -/
theorem univ_eq (c : Dev nD) : (Finset.univ : Finset (Dev nD)) = insert c (Finset.univ.map ⟨fun k => nx k c, nx_left_injective c⟩) := by
  revert c; decide
theorem self_notMem (c : Dev nD) : c ∉ (Finset.univ.map ⟨fun k => nx k c, nx_left_injective c⟩ : Finset (Dev nD)) := by
  revert c; decide

/-- The whole buffer is the own slot and the others, named by how far on they are, -/
theorem slots_on (c : Dev nD) (q : PosShare TreeShare) (f : Gath F) :
    (gLoc c ↦{q} f : sProp 𝕄) = iprop(slot c c q f ∗ bigSep Finset.univ fun k : Fin 15 => slot c (nx k c) q f) := by
  have h := Ring.pointsTo_blocks (Ix := Unit) (Name := ℕ) (U := UU) (Lvl := ℕ) (ℓ := gLoc c) slotSet (fun a b h => slotSet_disjoint h)
    slotSet_cover (q := q) f
  rw [h, univ_eq c, BI.bigSep_insert (self_notMem c), bigSep_map]
  rfl

/-- or by how far back. -/
theorem slots_back (c : Dev nD) (q : PosShare TreeShare) (f : Gath F) :
    (gLoc c ↦{q} f : sProp 𝕄) = iprop(slot c c q f ∗ bigSep Finset.univ fun k : Fin 15 => slot c (nx k.rev c) q f) := by
  rw [slots_on, bigSep_univ_equiv Fin.revPerm (fun k : Fin 15 => slot c (nx k c) q f)]
  rfl

/-- What the fifteen transfers read a slot through. -/
def lent (c b : Dev nD) (f : Gath F) : sProp 𝕄 := bigSep Finset.univ fun i : Fin 15 => slot c b (shareTok fullShare 15 i) f

theorem slot_lend (c b : Dev nD) (f : Gath F) : slot c b fullShare f ⊢ iprop(slot c b (shareDrop fullShare 15) f ∗ lent c b f) :=
  (Transfers.pointsTo_toks fullShare 15).1
theorem slot_back (c b : Dev nD) (f : Gath F) : iprop(slot c b (shareDrop fullShare 15) f ∗ lent c b f) ⊢ slot c b fullShare f :=
  (Transfers.pointsTo_toks fullShare 15).2

variable (G : Gath F)

/-- Before the load of the whole buffer: the remainder of the own slot, the other slots in full; the remainder is taken off
    the others. -/
theorem gather_open (c : Dev nD) :
    iprop(slot c c (shareDrop fullShare 15) G ∗ bigSep Finset.univ (recvPay G c))
      ⊢ iprop((gLoc c ↦{shareDrop fullShare 15} G) ∗ bigSep Finset.univ fun k : Fin 15 => lent c (nx k.rev c) G) := by
  rw [slots_back]
  iintro ⟨H0, H⟩
  ihave H := (show bigSep Finset.univ (recvPay G c)
      ⊢ iprop((bigSep Finset.univ fun k : Fin 15 => slot c (nx k.rev c) (shareDrop fullShare 15) G)
          ∗ bigSep Finset.univ fun k : Fin 15 => lent c (nx k.rev c) G) from by
    rw [← bigSep_sep']
    exact bigSep_mono fun k _ => slot_lend c _ G) $$ H
  icases H with ⟨H1, H2⟩
  isplitl [H0 H1]
  · isplitl [H0] <;> iassumption
  iexact H2

/-- After it, the slots are again in full, -/
theorem gather_close (c : Dev nD) :
    iprop((gLoc c ↦{shareDrop fullShare 15} G) ∗ bigSep Finset.univ fun k : Fin 15 => lent c (nx k.rev c) G)
      ⊢ iprop(slot c c (shareDrop fullShare 15) G ∗ bigSep Finset.univ (recvPay G c)) := by
  rw [slots_back]
  iintro ⟨⟨H0, H1⟩, H2⟩
  isplitl [H0]; · iexact H0
  iapply (show iprop((bigSep Finset.univ fun k : Fin 15 => slot c (nx k.rev c) (shareDrop fullShare 15) G)
          ∗ bigSep Finset.univ fun k : Fin 15 => lent c (nx k.rev c) G) ⊢ bigSep Finset.univ (recvPay G c) from by
    rw [← bigSep_sep']
    exact bigSep_mono fun k _ => slot_back c _ G)
  isplitl [H1] <;> iassumption

/-- and when the transfers have given their shares back, the whole buffer. -/
theorem gather_whole (c : Dev nD) :
    iprop(slot c c (shareDrop fullShare 15) G ∗ bigSep Finset.univ (recvPay G c) ∗ bigSep Finset.univ (sendPay G c))
      ⊢ (gLoc c ↦{fullShare} G : sProp 𝕄) := by
  rw [slots_back]
  iintro ⟨H0, H1, H2⟩
  isplitl [H0 H2]
  · iapply (slot_back c c G)
    isplitl [H0]; · iexact H0
    iapply (show bigSep Finset.univ (sendPay G c) ⊢ lent c c G from BI.Entails.refl _); iexact H2
  iexact H1

end Cert.SortProof

end
-- ==== Proof.Chain.lean ====
/-
# The values the kernel computes between its memory operations

The kernel's arithmetic comes in three stretches: from the loaded block to the slot it stores (the device's own sort), from
the gathered blocks to the packed array it stores (the merge on all devices' rows), and from one slab of that array to the
stored result (the last merge). Each function here names one value of a stretch in terms of the values before it.
-/
module

public import proofs.«01_k».proof.Proof.Gen.KernelIdeal
public import proofs.«01_k».proof.Proof.Gen.KernelIdeal.Skeleton

@[expose] public section

noncomputable section

namespace Cert.SortProof

open Cert.KernelIdeal Cert.KernelIdeal.Gen
open Idealize.ShloMosaic

variable {F : FTy → Type} [FloatOps F]

/-! ## The row numbers and lane numbers the masks are made of -/

abbrev rows128 : IVec S128x1 32 := iota .tc S128x1 32 [0] iota_S128x1_d0_w32
abbrev rows1024 : IVec S1024x1 32 := iota .tc S1024x1 32 [0] iota_S1024x1_d0_w32
abbrev lanes128 : IVec S1x128 32 := iota .tc S1x128 32 [1] iota_S1x128_d1_w32
abbrev lanes3 : IVec S1x1x128 32 := iota .tc S1x1x128 32 [2] iota_S1x1x128_d2_w32
abbrev ones3 : IVec S1x1x1 32 := iota .tc S1x1x1 32 [0] iota_S1x1x1_d0_w32

/-! ## First stretch: the device's own block -/

section Local
variable (o : BitVec 1) (x : FVec F S128x64 .bf16)

def a4 : FVec F S128x64 .bf16 := k0_pay4 (k0_pay1 x) k0_pay2 k0_pay3
def b4 : FVec F S128x64 .bf16 := k0_pay7 (k0_pay1 x) k0_pay2 k0_pay3
def c4 : FVec F S128x64 .bf16 := k0_pay8 (k0_pay1 x) k0_pay2 k0_pay3
def a5 : FVec F S128x64 .bf16 := k0_pay9 (a4 x) k0_pay5 k0_pay6 (b4 x) (c4 x)
def a6 : FVec F S128x64 .bf16 := k0_pay11 (a5 x) rows128 k0_pay10
def a7 : FVec F S128x64 .bf16 := k0_pay14 (a6 x) k0_pay12 k0_pay13 0#32
def b7 : FVec F S128x64 .bf16 := k0_pay17 (a6 x) k0_pay12 k0_pay13 0#32
def c7 : FVec F S128x64 .bf16 := k0_pay18 (a6 x) k0_pay12 k0_pay13 0#32
def a8 : FVec F S128x64 .bf16 := k0_pay20 (a7 x) k0_pay15 k0_pay16 (b7 x) (c7 x) k0_pay19
def a9 : FVec F S128x64 .bf16 := k0_pay21 (a8 x)
def a10 : FVec F S4x16x64 .bf16 := k0_pay26 (a9 x) rows128 k0_pay22 32#32
def b10 : FVec F S4x16x64 .bf16 := k0_pay27 (a9 x) rows128 k0_pay22 32#32
def a11 : FVec F S128x64 .bf16 := k0_pay33 (a10 x) (b10 x) k0_pay28 0#32
def b11 : FVec F S128x64 .bf16 := k0_pay34 (a10 x) (b10 x) k0_pay28 0#32
def a12 : FVec F S1x64x64 .bf16 := k0_pay36 k0_pay30 k0_pay31 (a11 x) (b11 x)
def b12 : FVec F S1x1x64x64 .bf16 := k0_pay37 k0_pay30 k0_pay31 (a11 x) (b11 x)
def a13 : FVec F S4x16x64 .bf16 := k0_pay39 o (a12 x) (b12 x)
def b13 : FVec F S4x16x64 .bf16 := k0_pay40 o (a12 x) (b12 x)
def c13 : FVec F S4x16x64 .bf16 := k0_pay41 o (a12 x) (b12 x)
def a14 : FVec F S128x64 .bf16 := k0_pay42 o (a13 o x) (b13 o x) (c13 o x)
def a15 : FVec F S128x64 .bf16 := k0_pay45 o (a14 o x) rows128 k0_pay43 k0_pay44
/-- The device's block sorted (ascending on an even device, descending on an odd one), as one slot of the gather buffer. -/
def ownSort : FVec F S1x128x64 .bf16 := k0_pay48 o (a15 o x) k0_pay46 k0_pay47

end Local

/-! ## Second stretch: the gathered blocks -/

section Packed
variable (g : Vec F S16x128x64 .bf16)

def a26 : FVec F S4x2x128x128 .bf16 := k0_pay49 g
def a27 : FVec F S32x16x128 .bf16 := k0_pay51 (a26 g)
def b27 : FVec F S32x16x128 .bf16 := k0_pay52 (a26 g)
def a28 : FVec F S1024x128 .bf16 := k0_pay53 (a27 g) (b27 g)
def a29 : FVec F S1024x128 .bf16 := k0_pay55 (a28 g) rows1024 lanes128 k0_pay54
def b29 : FVec F S1024x128 .bf16 := k0_pay59 (a28 g) rows1024 lanes128 k0_pay54
def a30 : FVec F S2x256x128 .bf16 := k0_pay63 (a29 g) k0_pay57 k0_pay58 (b29 g)
def b30 : FVec F S2x256x128 .bf16 := k0_pay64 (a29 g) k0_pay57 k0_pay58 (b29 g)
def c30 : FVec F S2x256x128 .bf16 := k0_pay66 (a29 g) k0_pay57 k0_pay58 (b29 g)
def a31 : FVec F S16x2x32x128 .bf16 := k0_pay68 (a30 g) (b30 g) (c30 g) k0_pay67
def a32 : FVec F S1024x128 .bf16 := k0_pay69 (a31 g)
def a33 : FVec F S1024x128 .bf16 := k0_pay75 (a32 g) rows1024 k0_pay70 1024#32 0#32
def b33 : FVec F S1024x128 .bf16 := k0_pay76 (a32 g) rows1024 k0_pay70 1024#32 0#32
def a34 : FVec F S1024x128 .bf16 := k0_pay78 (a33 g) (b33 g) k0_pay77
def a35 : FVec F S4x128x128 .bf16 := k0_pay85 (a34 g) k0_pay80 k0_pay81
def b35 : FVec F S4x128x128 .bf16 := k0_pay86 (a34 g) k0_pay80 k0_pay81
def a36 : FVec F S32x16x128 .bf16 := k0_pay88 (a35 g) (b35 g) lanes3 64#32
def b36 : FVec F S32x16x128 .bf16 := k0_pay89 (a35 g) (b35 g) lanes3 64#32
def c36 : FVec F S32x16x128 .bf16 := k0_pay90 (a35 g) (b35 g) lanes3 64#32
def a37 : FVec F S1024x128 .bf16 := k0_pay91 (a36 g) (b36 g) (c36 g)
def a38 : FVec F S1024x128 .bf16 := k0_pay94 (a37 g) k0_pay92 k0_pay93
def a39 : FVec F S1x512x128 .bf16 := k0_pay98 (a38 g) rows1024 lanes128 64#32
def b39 : FVec F S1x512x128 .bf16 := k0_pay99 (a38 g) rows1024 lanes128 64#32
def a40 : FVec F S4x128x128 .bf16 := k0_pay108 (a39 g) (b39 g) k0_pay100 k0_pay101
def b40 : FVec F S4x1x128x128 .bf16 := k0_pay109 (a39 g) (b39 g) k0_pay100 k0_pay101
/-- The packed array after the merges over rows of different devices, as the kernel stores it. -/
def packed : FVec F S8x128x128 .bf16 := k0_pay110 (a40 g) (b40 g)

end Packed

/-! ## Third stretch: the device's slab -/

section Final
variable (v : BitVec 32) (w : Vec F S1x128x128 .bf16)

def a44 : FVec F S1x64x64 .bf16 := k0_pay114 v w
def b44 : FVec F S1x64x64 .bf16 := k0_pay115 v w
def a45 : FVec F S4x16x64 .bf16 := k0_pay119 (a44 v w) (b44 v w) ones3 128#32
def b45 : FVec F S4x16x64 .bf16 := k0_pay120 (a44 v w) (b44 v w) ones3 128#32
def a46 : FVec F S128x64 .bf16 := k0_pay126 (a45 v w) (b45 v w) k0_pay121 0#32
def b46 : FVec F S128x64 .bf16 := k0_pay127 (a45 v w) (b45 v w) k0_pay121 0#32
/-- The device's block of the result. -/
def finish : FVec F S128x64 .f32 := k0_pay128 k0_pay123 k0_pay124 (a46 v w) (b46 v w)

end Final

/-! ## The device's number as the kernel computes it -/

/-- The device's number as a word, -/
def devWord (c : Dev nD) : BitVec 32 := Scalar.remsi (Scalar.divsi (Dev.word c) 1#32) 16#32
/-- and whether it is odd. -/
def oddBit (c : Dev nD) : BitVec 1 := Scalar.cmpi .ne (Scalar.remsi (devWord c) 2#32) 0#32

/-! ## The pure parts of the body return these values -/

section Parts
open Idealize.SL.Sem
variable (arg0 : Memref sig .tc .vmem S128x64 .bf16) (harg0 : arg0.IsWhole) (arg1 : Memref sig .tc .vmem S128x64 .f32) (harg1 : arg1.IsWhole)
  (arg2 : Memref sig .tc .vmem S16x128x64 .bf16) (harg2 : arg2.IsWhole) (arg3 : Memref sig .tc .vmem S8x128x128 .bf16) (harg3 : arg3.IsWhole)
  (arg4 : DmaSems sig S15) (arg5 : DmaSems sig S15)

theorem part4_eq (x : FVec F S128x64 .bf16) :
    k0_part4 arg0 harg0 arg1 harg1 arg2 harg2 arg3 harg3 arg4 arg5 (k0_pay1 x) k0_pay2 k0_pay3 = .ret ⟨a4 x, k0_pay5, k0_pay6, b4 x, c4 x⟩ := rfl
theorem part5_eq (x : FVec F S128x64 .bf16) :
    k0_part5 arg0 harg0 arg1 harg1 arg2 harg2 arg3 harg3 arg4 arg5 (a4 x) k0_pay5 k0_pay6 (b4 x) (c4 x) = .ret ⟨a5 x, rows128, k0_pay10⟩ := rfl
theorem part6_eq (x : FVec F S128x64 .bf16) :
    k0_part6 arg0 harg0 arg1 harg1 arg2 harg2 arg3 harg3 arg4 arg5 (a5 x) rows128 k0_pay10 = .ret ⟨a6 x, k0_pay12, k0_pay13, 0#32⟩ := rfl
theorem part7_eq (x : FVec F S128x64 .bf16) :
    k0_part7 arg0 harg0 arg1 harg1 arg2 harg2 arg3 harg3 arg4 arg5 (a6 x) k0_pay12 k0_pay13 0#32 = .ret ⟨a7 x, k0_pay15, k0_pay16, b7 x, c7 x, k0_pay19⟩ := rfl
theorem part8_eq (x : FVec F S128x64 .bf16) :
    k0_part8 arg0 harg0 arg1 harg1 arg2 harg2 arg3 harg3 arg4 arg5 (a7 x) k0_pay15 k0_pay16 (b7 x) (c7 x) k0_pay19 = .ret (a8 x) := rfl
theorem part9_eq (x : FVec F S128x64 .bf16) :
    k0_part9 arg0 harg0 arg1 harg1 arg2 harg2 arg3 harg3 arg4 arg5 (a8 x) = .ret ⟨a9 x, rows128, k0_pay22, 32#32⟩ := rfl
theorem part10_eq (x : FVec F S128x64 .bf16) :
    k0_part10 arg0 harg0 arg1 harg1 arg2 harg2 arg3 harg3 arg4 arg5 (a9 x) rows128 k0_pay22 32#32 = .ret ⟨a10 x, b10 x, k0_pay28, 0#32⟩ := rfl
theorem part11_eq (x : FVec F S128x64 .bf16) :
    k0_part11 arg0 harg0 arg1 harg1 arg2 harg2 arg3 harg3 arg4 arg5 (a10 x) (b10 x) k0_pay28 0#32 = .ret ⟨k0_pay30, k0_pay31, a11 x, b11 x⟩ := rfl
theorem part12_eq (x : FVec F S128x64 .bf16) :
    k0_part12 arg0 harg0 arg1 harg1 arg2 harg2 arg3 harg3 arg4 arg5 k0_pay30 k0_pay31 (a11 x) (b11 x) = .ret ⟨a12 x, b12 x⟩ := rfl
theorem part13_eq (o : BitVec 1) (x : FVec F S128x64 .bf16) :
    k0_part13 arg0 harg0 arg1 harg1 arg2 harg2 arg3 harg3 arg4 arg5 o (a12 x) (b12 x) = .ret ⟨a13 o x, b13 o x, c13 o x⟩ := rfl
theorem part14_eq (o : BitVec 1) (x : FVec F S128x64 .bf16) :
    k0_part14 arg0 harg0 arg1 harg1 arg2 harg2 arg3 harg3 arg4 arg5 o (a13 o x) (b13 o x) (c13 o x) = .ret ⟨a14 o x, rows128, k0_pay43, k0_pay44⟩ := rfl
theorem part15_eq (o : BitVec 1) (x : FVec F S128x64 .bf16) :
    k0_part15 arg0 harg0 arg1 harg1 arg2 harg2 arg3 harg3 arg4 arg5 o (a14 o x) rows128 k0_pay43 k0_pay44 = .ret ⟨a15 o x, k0_pay46, k0_pay47⟩ := rfl
theorem part27_eq (g : Vec F S16x128x64 .bf16) :
    k0_part27 arg0 harg0 arg1 harg1 arg2 harg2 arg3 harg3 arg4 arg5 (a26 g) = .ret ⟨a27 g, b27 g⟩ := rfl
theorem part28_eq (g : Vec F S16x128x64 .bf16) :
    k0_part28 arg0 harg0 arg1 harg1 arg2 harg2 arg3 harg3 arg4 arg5 (a27 g) (b27 g) = .ret ⟨a28 g, rows1024, lanes128, k0_pay54⟩ := rfl
theorem part29_eq (g : Vec F S16x128x64 .bf16) :
    k0_part29 arg0 harg0 arg1 harg1 arg2 harg2 arg3 harg3 arg4 arg5 (a28 g) rows1024 lanes128 k0_pay54 = .ret ⟨a29 g, k0_pay57, k0_pay58, b29 g⟩ := rfl
theorem part30_eq (g : Vec F S16x128x64 .bf16) :
    k0_part30 arg0 harg0 arg1 harg1 arg2 harg2 arg3 harg3 arg4 arg5 (a29 g) k0_pay57 k0_pay58 (b29 g) = .ret ⟨a30 g, b30 g, c30 g, k0_pay67⟩ := rfl
theorem part31_eq (g : Vec F S16x128x64 .bf16) :
    k0_part31 arg0 harg0 arg1 harg1 arg2 harg2 arg3 harg3 arg4 arg5 (a30 g) (b30 g) (c30 g) k0_pay67 = .ret (a31 g) := rfl
theorem part32_eq (g : Vec F S16x128x64 .bf16) :
    k0_part32 arg0 harg0 arg1 harg1 arg2 harg2 arg3 harg3 arg4 arg5 (a31 g) = .ret ⟨a32 g, rows1024, k0_pay70, 1024#32, 0#32⟩ := rfl
theorem part33_eq (g : Vec F S16x128x64 .bf16) :
    k0_part33 arg0 harg0 arg1 harg1 arg2 harg2 arg3 harg3 arg4 arg5 (a32 g) rows1024 k0_pay70 1024#32 0#32 = .ret ⟨a33 g, b33 g, k0_pay77⟩ := rfl
theorem part34_eq (g : Vec F S16x128x64 .bf16) :
    k0_part34 arg0 harg0 arg1 harg1 arg2 harg2 arg3 harg3 arg4 arg5 (a33 g) (b33 g) k0_pay77 = .ret ⟨a34 g, k0_pay80, k0_pay81⟩ := rfl
theorem part35_eq (g : Vec F S16x128x64 .bf16) :
    k0_part35 arg0 harg0 arg1 harg1 arg2 harg2 arg3 harg3 arg4 arg5 (a34 g) k0_pay80 k0_pay81 = .ret ⟨a35 g, b35 g, lanes3, 64#32⟩ := rfl
theorem part36_eq (g : Vec F S16x128x64 .bf16) :
    k0_part36 arg0 harg0 arg1 harg1 arg2 harg2 arg3 harg3 arg4 arg5 (a35 g) (b35 g) lanes3 64#32 = .ret ⟨a36 g, b36 g, c36 g⟩ := rfl
theorem part37_eq (g : Vec F S16x128x64 .bf16) :
    k0_part37 arg0 harg0 arg1 harg1 arg2 harg2 arg3 harg3 arg4 arg5 (a36 g) (b36 g) (c36 g) = .ret ⟨a37 g, k0_pay92, k0_pay93⟩ := rfl
theorem part38_eq (g : Vec F S16x128x64 .bf16) :
    k0_part38 arg0 harg0 arg1 harg1 arg2 harg2 arg3 harg3 arg4 arg5 (a37 g) k0_pay92 k0_pay93 = .ret ⟨a38 g, rows1024, lanes128, 64#32⟩ := rfl
theorem part39_eq (g : Vec F S16x128x64 .bf16) :
    k0_part39 arg0 harg0 arg1 harg1 arg2 harg2 arg3 harg3 arg4 arg5 (a38 g) rows1024 lanes128 64#32 = .ret ⟨a39 g, b39 g, k0_pay100, k0_pay101⟩ := rfl
theorem part40_eq (g : Vec F S16x128x64 .bf16) :
    k0_part40 arg0 harg0 arg1 harg1 arg2 harg2 arg3 harg3 arg4 arg5 (a39 g) (b39 g) k0_pay100 k0_pay101 = .ret ⟨a40 g, b40 g⟩ := rfl
theorem part45_eq (v : BitVec 32) (w : Vec F S1x128x128 .bf16) :
    k0_part45 arg0 harg0 arg1 harg1 arg2 harg2 arg3 harg3 arg4 arg5 (a44 v w) (b44 v w) ones3 128#32 = .ret ⟨a45 v w, b45 v w, k0_pay121, 0#32⟩ := rfl
theorem part46_eq (v : BitVec 32) (w : Vec F S1x128x128 .bf16) :
    k0_part46 arg0 harg0 arg1 harg1 arg2 harg2 arg3 harg3 arg4 arg5 (a45 v w) (b45 v w) k0_pay121 0#32 = .ret ⟨k0_pay123, k0_pay124, a46 v w, b46 v w⟩ := rfl

end Parts

end Cert.SortProof

end
-- ==== Proof.Signals.lean ====
/-
# The fifteen signals and the load of the own block

How the signalling parts of the body run.
-/
module

public import proofs.«01_k».proof.Proof.Slots
public import proofs.«01_k».proof.Proof.Chain

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (G : Gath F) (K : Dev nD × Kind → ℕ) (c : Dev nD)

/-- The barrier semaphore as the body holds it. -/
abbrev barV : Sems sig S_ := SemArray.scalar (sig.barrier 0 rfl)

/-- A program that has returned: its post-condition is what is left to show. -/
theorem exec_ret {α : Type} {a : α} {Q : α → sProp 𝕄} : Q a ⊢ exec c (.ret a) Q := by
  unfold exec
  rw [wp_ret]
  iintro H
  imodintro
  iexact H

/-- Signals 0 to 4. -/
theorem run_part1 (Q : _ → sProp 𝕄) :
    iprop(records G K ∗ sigSt c 0)
      ⊢ iprop((sigSt c 5 -∗ Q ⟨c, devWord c, Scalar.remsi (devWord c) 8#32, barV, 6#32⟩)
          -∗ exec c (k0_part1 (F := F) xM (Memref.isWhole_whole _) oM (Memref.isWhole_whole _) gM (Memref.isWhole_whole _) wM (Memref.isWhole_whole _) cc0_scratch2 cc0_scratch3) Q) := by
  rw [k0_part1_eq_skeleton]; unfold k0_part1_skel
  simp only [semSignalWord, semWaitWord, Prog.lift, Prog.bind_op, Prog.bind_ret, Prog.pure_eq_ret, wp_deviceId]
  iintro ⟨#HR, Hs⟩ Hk
  iapply (signal_step G K c ⟨_, k0_dev1_lt c⟩ 0 (by decide) (Fin.ext (k0_dev1_eq c)) rfl) $$ [Hs]
  · isplitr <;> iassumption
  iintro Hs
  iapply (signal_step G K c ⟨_, k0_dev2_lt c⟩ 1 (by decide) (Fin.ext (k0_dev2_eq c)) rfl) $$ [Hs]
  · isplitr <;> iassumption
  iintro Hs
  iapply (signal_step G K c ⟨_, k0_dev3_lt c⟩ 2 (by decide) (Fin.ext (k0_dev3_eq c)) rfl) $$ [Hs]
  · isplitr <;> iassumption
  iintro Hs
  iapply (signal_step G K c ⟨_, k0_dev4_lt c⟩ 3 (by decide) (Fin.ext (k0_dev4_eq c)) rfl) $$ [Hs]
  · isplitr <;> iassumption
  iintro Hs
  iapply (signal_step G K c ⟨_, k0_dev5_lt c⟩ 4 (by decide) (Fin.ext (k0_dev5_eq c)) rfl) $$ [Hs]
  · isplitr <;> iassumption
  iintro Hs
  iapply (show Q ⟨c, devWord c, Scalar.remsi (devWord c) 8#32, barV, 6#32⟩ ⊢ exec c (.ret _) Q from exec_ret c)
  iapply Hk
  iexact Hs

/-- Signals 5 to 10. -/
theorem run_part2 (v2 c6 : BitVec 32) (Q : _ → sProp 𝕄) :
    iprop(records G K ∗ sigSt c 5)
      ⊢ iprop((sigSt c 11 -∗ Q 12#32)
          -∗ exec c (k0_part2 (F := F) xM (Memref.isWhole_whole _) oM (Memref.isWhole_whole _) gM (Memref.isWhole_whole _) wM (Memref.isWhole_whole _) cc0_scratch2 cc0_scratch3 c v2 barV c6) Q) := by
  rw [k0_part2_eq_skeleton]; unfold k0_part2_skel
  simp only [semSignalWord, semWaitWord, Prog.lift, Prog.bind_op, Prog.bind_ret, Prog.pure_eq_ret, wp_deviceId]
  iintro ⟨#HR, Hs⟩ Hk
  iapply (signal_step G K c ⟨_, k0_dev6_lt c⟩ 5 (by decide) (Fin.ext (k0_dev6_eq c)) rfl) $$ [Hs]
  · isplitr <;> iassumption
  iintro Hs
  iapply (signal_step G K c ⟨_, k0_dev7_lt c⟩ 6 (by decide) (Fin.ext (k0_dev7_eq c)) rfl) $$ [Hs]
  · isplitr <;> iassumption
  iintro Hs
  iapply (signal_step G K c ⟨_, k0_dev8_lt c⟩ 7 (by decide) (Fin.ext (k0_dev8_eq c)) rfl) $$ [Hs]
  · isplitr <;> iassumption
  iintro Hs
  iapply (signal_step G K c ⟨_, k0_dev9_lt c⟩ 8 (by decide) (Fin.ext (k0_dev9_eq c)) rfl) $$ [Hs]
  · isplitr <;> iassumption
  iintro Hs
  iapply (signal_step G K c ⟨_, k0_dev10_lt c⟩ 9 (by decide) (Fin.ext (k0_dev10_eq c)) rfl) $$ [Hs]
  · isplitr <;> iassumption
  iintro Hs
  iapply (signal_step G K c ⟨_, k0_dev11_lt c⟩ 10 (by decide) (Fin.ext (k0_dev11_eq c)) rfl) $$ [Hs]
  · isplitr <;> iassumption
  iintro Hs
  iapply (show Q 12#32 ⊢ exec c (.ret _) Q from exec_ret c)
  iapply Hk
  iexact Hs

/-- The device's own block as staged. -/
abbrev xLoc : Loc nD τ sig := (c : Thread nD τ).loc cc0_stg0_0

theorem zero2 : (![0, 0] : Fin 2 → Nat) = fun _ => 0 := funext fun a => by fin_cases a <;> rfl
theorem zero3 : (![0, 0, 0] : Fin 3 → Nat) = fun _ => 0 := funext fun a => by fin_cases a <;> rfl

theorem read_x (f : (cc0_stg0_0 : Ref sig .tc).ty.Contents (Elt F)) :
    xM.view.readAt (Elt F) (Rect.unit (s := S128x64) ![0, 0] S128x64.size inb_S128x64_S128x64_0_0).toLoadRect f = f :=
  Memref.readAt_unit_zero (Elt F) cc0_stg0_0 zero2 _ f

/-- Signals 11 to 14, and the load of the own block. -/
theorem run_part3 (c12 : BitVec 32) (x : (cc0_stg0_0 : Ref sig .tc).ty.Contents (Elt F)) (Q : _ → sProp 𝕄) :
    iprop(records G K ∗ sigSt c 11 ∗ (xLoc c ↦{fullShare} x))
      ⊢ iprop((sigSt c 15 ∗ (xLoc c ↦{fullShare} x) -∗ Q ⟨oddBit c, k0_pay1 x, k0_pay2, k0_pay3⟩)
          -∗ exec c (k0_part3 (F := F) xM (Memref.isWhole_whole _) oM (Memref.isWhole_whole _) gM (Memref.isWhole_whole _) wM (Memref.isWhole_whole _) cc0_scratch2 cc0_scratch3 c (devWord c) barV c12) Q) := by
  rw [k0_part3_eq_skeleton]; unfold k0_part3_skel
  simp only [semSignalWord, Prog.lift, Prog.bind_op, Prog.bind_ret, Prog.pure_eq_ret]
  iintro ⟨#HR, Hs, Hx⟩ Hk
  iapply (signal_step G K c ⟨_, k0_dev12_lt c⟩ 11 (by decide) (Fin.ext (k0_dev12_eq c)) rfl) $$ [Hs]
  · isplitr <;> iassumption
  iintro Hs
  iapply (signal_step G K c ⟨_, k0_dev13_lt c⟩ 12 (by decide) (Fin.ext (k0_dev13_eq c)) rfl) $$ [Hs]
  · isplitr <;> iassumption
  iintro Hs
  iapply (signal_step G K c ⟨_, k0_dev14_lt c⟩ 13 (by decide) (Fin.ext (k0_dev14_eq c)) rfl) $$ [Hs]
  · isplitr <;> iassumption
  iintro Hs
  iapply (signal_step G K c ⟨_, k0_dev15_lt c⟩ 14 (by decide) (Fin.ext (k0_dev15_eq c)) rfl) $$ [Hs]
  · isplitr <;> iassumption
  iintro Hs
  iapply (wp_load 𝒱₀ (c : Thread nD τ) none Set.univ (m := xM) (Finset.subset_univ _)) $$ Hx; iintro Hx
  rw [read_x]
  iapply (show Q ⟨oddBit c, k0_pay1 x, k0_pay2, k0_pay3⟩ ⊢ exec c (.ret _) Q from exec_ret c)
  iapply Hk
  isplitl [Hs] <;> iassumption

end Cert.SortProof

end
-- ==== Proof.Sends.lean ====
/-
# Transfers 1 to 13

How the sending parts of the body run.
-/
module

public import proofs.«01_k».proof.Proof.Slots
public import proofs.«01_k».proof.Proof.Chain
public import proofs.«01_k».proof.Proof.Signals

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (G : Gath F) (K : Dev nD × Kind → ℕ) (c : Dev nD)

/-- Transfers 1 to 3, whatever device words the part hands on. -/
theorem run_part17 (v2 : BitVec 32) (Q : _ → sProp 𝕄) :
    iprop(records G K ∗ sendSt G c 1)
      ⊢ iprop((∀ r, sendSt G c 4 -∗ Q r) -∗ exec c (k0_part17 (F := F) xM (Memref.isWhole_whole _) oM (Memref.isWhole_whole _) gM (Memref.isWhole_whole _) wM (Memref.isWhole_whole _) cc0_scratch2 cc0_scratch3 c v2) Q) := by
  rw [k0_part17_eq_skeleton]; unfold k0_part17_skel
  simp only [Prog.lift, Prog.bind_op, Prog.bind_ret, Prog.pure_eq_ret]
  iintro ⟨#HR, Hs⟩ Hk
  iapply (send_step G K c ⟨_, k0_dev17_lt c⟩ 1 (by decide) (Fin.ext (k0_dev17_eq c)) (send_sem ⟨1, _⟩ _) (recv_sem ⟨1, _⟩ _)) $$ [Hs]
  · isplitr <;> iassumption
  iintro Hs
  iapply (send_step G K c ⟨_, k0_dev18_lt c⟩ 2 (by decide) (Fin.ext (k0_dev18_eq c)) (send_sem ⟨2, _⟩ _) (recv_sem ⟨2, _⟩ _)) $$ [Hs]
  · isplitr <;> iassumption
  iintro Hs
  iapply (send_step G K c ⟨_, k0_dev19_lt c⟩ 3 (by decide) (Fin.ext (k0_dev19_eq c)) (send_sem ⟨3, _⟩ _) (recv_sem ⟨3, _⟩ _)) $$ [Hs]
  · isplitr <;> iassumption
  iintro Hs
  iapply exec_ret
  iapply Hk
  iexact Hs

/-- Transfers 4 to 5, whatever device words the part hands on. -/
theorem run_part18 (v2 v719 c16 : BitVec 32) (Q : _ → sProp 𝕄) :
    iprop(records G K ∗ sendSt G c 4)
      ⊢ iprop((∀ r, sendSt G c 6 -∗ Q r) -∗ exec c (k0_part18 (F := F) xM (Memref.isWhole_whole _) oM (Memref.isWhole_whole _) gM (Memref.isWhole_whole _) wM (Memref.isWhole_whole _) cc0_scratch2 cc0_scratch3 c v2 v719 c16) Q) := by
  rw [k0_part18_eq_skeleton]; unfold k0_part18_skel
  simp only [Prog.lift, Prog.bind_op, Prog.bind_ret, Prog.pure_eq_ret]
  iintro ⟨#HR, Hs⟩ Hk
  iapply (send_step G K c ⟨_, k0_dev20_lt c⟩ 4 (by decide) (Fin.ext (k0_dev20_eq c)) (send_sem ⟨4, _⟩ _) (recv_sem ⟨4, _⟩ _)) $$ [Hs]
  · isplitr <;> iassumption
  iintro Hs
  iapply (send_step G K c ⟨_, k0_dev21_lt c⟩ 5 (by decide) (Fin.ext (k0_dev21_eq c)) (send_sem ⟨5, _⟩ _) (recv_sem ⟨5, _⟩ _)) $$ [Hs]
  · isplitr <;> iassumption
  iintro Hs
  iapply exec_ret
  iapply Hk
  iexact Hs

/-- Transfers 6 to 8, whatever device words the part hands on. -/
theorem run_part19 (v2 : BitVec 32) (Q : _ → sProp 𝕄) :
    iprop(records G K ∗ sendSt G c 6)
      ⊢ iprop((∀ r, sendSt G c 9 -∗ Q r) -∗ exec c (k0_part19 (F := F) xM (Memref.isWhole_whole _) oM (Memref.isWhole_whole _) gM (Memref.isWhole_whole _) wM (Memref.isWhole_whole _) cc0_scratch2 cc0_scratch3 c v2) Q) := by
  rw [k0_part19_eq_skeleton]; unfold k0_part19_skel
  simp only [Prog.lift, Prog.bind_op, Prog.bind_ret, Prog.pure_eq_ret]
  iintro ⟨#HR, Hs⟩ Hk
  iapply (send_step G K c ⟨_, k0_dev22_lt c⟩ 6 (by decide) (Fin.ext (k0_dev22_eq c)) (send_sem ⟨6, _⟩ _) (recv_sem ⟨6, _⟩ _)) $$ [Hs]
  · isplitr <;> iassumption
  iintro Hs
  iapply (send_step G K c ⟨_, k0_dev23_lt c⟩ 7 (by decide) (Fin.ext (k0_dev23_eq c)) (send_sem ⟨7, _⟩ _) (recv_sem ⟨7, _⟩ _)) $$ [Hs]
  · isplitr <;> iassumption
  iintro Hs
  iapply (send_step G K c ⟨_, k0_dev24_lt c⟩ 8 (by decide) (Fin.ext (k0_dev24_eq c)) (send_sem ⟨8, _⟩ _) (recv_sem ⟨8, _⟩ _)) $$ [Hs]
  · isplitr <;> iassumption
  iintro Hs
  iapply exec_ret
  iapply Hk
  iexact Hs

/-- Transfers 9 to 10, whatever device words the part hands on. -/
theorem run_part20 (v2 v781 : BitVec 32) (Q : _ → sProp 𝕄) :
    iprop(records G K ∗ sendSt G c 9)
      ⊢ iprop((∀ r, sendSt G c 11 -∗ Q r) -∗ exec c (k0_part20 (F := F) xM (Memref.isWhole_whole _) oM (Memref.isWhole_whole _) gM (Memref.isWhole_whole _) wM (Memref.isWhole_whole _) cc0_scratch2 cc0_scratch3 c v2 v781) Q) := by
  rw [k0_part20_eq_skeleton]; unfold k0_part20_skel
  simp only [Prog.lift, Prog.bind_op, Prog.bind_ret, Prog.pure_eq_ret]
  iintro ⟨#HR, Hs⟩ Hk
  iapply (send_step G K c ⟨_, k0_dev25_lt c⟩ 9 (by decide) (Fin.ext (k0_dev25_eq c)) (send_sem ⟨9, _⟩ _) (recv_sem ⟨9, _⟩ _)) $$ [Hs]
  · isplitr <;> iassumption
  iintro Hs
  iapply (send_step G K c ⟨_, k0_dev26_lt c⟩ 10 (by decide) (Fin.ext (k0_dev26_eq c)) (send_sem ⟨10, _⟩ _) (recv_sem ⟨10, _⟩ _)) $$ [Hs]
  · isplitr <;> iassumption
  iintro Hs
  iapply exec_ret
  iapply Hk
  iexact Hs

/-- Transfers 11 to 13, whatever device words the part hands on. -/
theorem run_part21 (v2 : BitVec 32) (Q : _ → sProp 𝕄) :
    iprop(records G K ∗ sendSt G c 11)
      ⊢ iprop((∀ r, sendSt G c 14 -∗ Q r) -∗ exec c (k0_part21 (F := F) xM (Memref.isWhole_whole _) oM (Memref.isWhole_whole _) gM (Memref.isWhole_whole _) wM (Memref.isWhole_whole _) cc0_scratch2 cc0_scratch3 c v2) Q) := by
  rw [k0_part21_eq_skeleton]; unfold k0_part21_skel
  simp only [Prog.lift, Prog.bind_op, Prog.bind_ret, Prog.pure_eq_ret]
  iintro ⟨#HR, Hs⟩ Hk
  iapply (send_step G K c ⟨_, k0_dev27_lt c⟩ 11 (by decide) (Fin.ext (k0_dev27_eq c)) (send_sem ⟨11, _⟩ _) (recv_sem ⟨11, _⟩ _)) $$ [Hs]
  · isplitr <;> iassumption
  iintro Hs
  iapply (send_step G K c ⟨_, k0_dev28_lt c⟩ 12 (by decide) (Fin.ext (k0_dev28_eq c)) (send_sem ⟨12, _⟩ _) (recv_sem ⟨12, _⟩ _)) $$ [Hs]
  · isplitr <;> iassumption
  iintro Hs
  iapply (send_step G K c ⟨_, k0_dev29_lt c⟩ 13 (by decide) (Fin.ext (k0_dev29_eq c)) (send_sem ⟨13, _⟩ _) (recv_sem ⟨13, _⟩ _)) $$ [Hs]
  · isplitr <;> iassumption
  iintro Hs
  iapply exec_ret
  iapply Hk
  iexact Hs

end Cert.SortProof

end
-- ==== Proof.Exchange.lean ====
/-
# The own block stored, and the barrier

After the barrier every other device has handed over the slot this device fills there.
-/
module

public import proofs.«01_k».proof.Proof.Slots
public import proofs.«01_k».proof.Proof.Chain
public import proofs.«01_k».proof.Proof.Sends

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (G : Gath F) (K : Dev nD × Kind → ℕ) (c : Dev nD)

/-- What a barrier's round hands over, named by the device's own count: its slot of every other device. -/
theorem bar_slots : bigSep Finset.univ (fun d => barPay (F := F) c d)
    = bigSep Finset.univ fun k : Fin 15 => iprop(∃ f, slot (F := F) (nx k c) c fullShare f) := by
  rw [bigSep_univ_equiv Fin.revPerm (fun k : Fin 15 => iprop(∃ f, slot (F := F) (nx k c) c fullShare f))]
  rfl

/-- What the fifteen transfers need besides slots: their duties' tokens. -/
def sendToks : sProp 𝕄 :=
  bigSep Finset.univ fun k : Fin 15 => iprop(dutyTok EX (sendCell c k) 0 0 ∗ dutyTok EX (recvCell (nx k c) k) 0 0)

/-- All is ready for the transfers. -/
theorem send_start :
    iprop((∃ W, owes (c : Thread nD τ) (oweR c 0) W) ∗ sendToks c ∗ lent c c G
        ∗ bigSep Finset.univ fun k : Fin 15 => iprop(∃ f, slot (F := F) (nx k c) c fullShare f))
      ⊢ sendSt G c 0 := by
  unfold sendSt sendToks lent
  rw [rest_zero, done_zero, bigSep_empty]
  simp only [bigSep_sep']
  iintro ⟨HO, Ht, Hl, Hs⟩
  isplitl [HO]; · iexact HO
  isplitl [Ht Hl Hs]
  · isplitl [Ht]; · iexact Ht
    isplitl [Hl] <;> iassumption
  iempintro

/-- The own block, sorted, goes into its slot; the barrier is passed; transfer 0 is issued. -/
theorem run_part16 (x : FVec F S128x64 .bf16)
    (hG : ∀ f : Gath F, ∀ i ∈ slotSet c, (gM.access (slotR c)).write (Elt F) f (ownSort (oddBit c) x) Finset.univ i = G i)
    (Q : _ → sProp 𝕄) :
    iprop(records G K ∗ sigSt c 15 ∗ (∃ f, slot c c fullShare f) ∗ cred (tallyAt (barCell c) () 15)
        ∗ atPos EX (barCell c) 0 ∅ 0 ∗ levAts L lv ∗ sendToks c)
      ⊢ iprop((∀ r, sendSt G c 1 ∗ atPos EX (barCell c) 1 ∅ 0 ∗ slot c c (shareDrop fullShare 15) G -∗ Q r)
          -∗ exec c (k0_part16 (F := F) xM (Memref.isWhole_whole _) oM (Memref.isWhole_whole _) gM (Memref.isWhole_whole _) wM (Memref.isWhole_whole _) cc0_scratch2 cc0_scratch3 c (devWord c) barV (oddBit c) (a15 (oddBit c) x) k0_pay46 k0_pay47) Q) := by
  rw [k0_part16_eq_skeleton]; unfold k0_part16_skel
  simp only [semWaitWord, Prog.lift, Prog.bind_op, Prog.bind_ret, Prog.pure_eq_ret]
  iintro ⟨#HR, Hs, ⟨%f, Hf⟩, HcB, HatB, #Hlev, Ht⟩ Hk
  unfold slot
  iapply (wp_load_rect 𝒱₀ (c : Thread nD τ) none Set.univ (m := gM) (r := slotR c) (show (gM.access (slotR c)).set ⊆ slotSet c from (slotR_set c).le)) $$ Hf; iintro Hf
  iapply (wp_store 𝒱₀ (c : Thread nD τ) none Set.univ (m := gM) (r := slotR c) (Mk := Finset.univ) (by rw [slotR_set])) $$ Hf; iintro Hf
  ihave Hf := (show ((gM.access (slotR c)).loc (c : Thread nD τ) ↦[slotSet c]{fullShare} (gM.access (slotR c)).write (Elt F) f (k0_pay48 (oddBit c) (a15 (oddBit c) x) k0_pay46 k0_pay47) Finset.univ)
    ⊢ slot c c fullShare G from Entails.of_eq (slot_congr c c fullShare (hG f))) $$ Hf
  unfold sigSt
  icases Hs with ⟨⟨%W, HO⟩, -⟩
  rw [oweB_last]
  ihave Hc := (record_bar G K c) $$ HR
  icases Hc with ⟨#HI, -⟩
  iapply (Rounds.wp_wait_rest_token 𝒱₀ EX (ringRd G) (c : Thread nD τ) none (κ := K (c, .inl ()))
      (wpE_semWait_eq 𝒱₀ (c : Thread nD τ) none Set.univ) (Set.mem_univ _) () (O := oweR c 0) (W := W) (R := 0) (m := 0) (T := ∅)
      (by rw [expect_bar]; decide)) $$ [HcB HO HatB]
  · isplitr; · iexact HI
    isplitl [HcB]; · iexact HcB
    isplitl [HO]; · iexact HO
    isplitr; · iapply (mayWait_bar c 0); iexact Hlev
    iexact HatB
  iintro ⟨HO, HatB, -, Hpay⟩
  ihave Hp := (Entails.of_eq ((rest_bar G c).trans (bar_slots c))) $$ Hpay
  ihave Hf := (slot_lend c c G) $$ Hf
  icases Hf with ⟨Hown, Hlent⟩
  ihave Hs := (send_start G c) $$ [HO Ht Hlent Hp]
  · isplitl [HO]; · iexists _; iexact HO
    isplitl [Ht]; · iexact Ht
    isplitl [Hlent] <;> iassumption
  iapply (send_step G K c ⟨_, k0_dev16_lt c⟩ 0 (by decide) (Fin.ext (k0_dev16_eq c)) (send_sem ⟨0, _⟩ _) (recv_sem ⟨0, _⟩ _)) $$ [Hs]
  · isplitr <;> iassumption
  iintro Hs
  iapply exec_ret
  iapply Hk
  isplitl [Hs]; · iexact Hs
  isplitl [HatB]; · iexact HatB
  unfold slot; iexact Hown

end Cert.SortProof

end
-- ==== Proof.Arrivals.lean ====
/-
# The first and the last waits for arrivals, and the load of the whole buffer

The own transfers may still be reading the own slot.
-/
module

public import proofs.«01_k».proof.Proof.Slots
public import proofs.«01_k».proof.Proof.Chain
public import proofs.«01_k».proof.Proof.Exchange

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (G : Gath F) (K : Dev nD × Kind → ℕ) (c : Dev nD)

/-- Credits of the fifteen transfers issued. -/
def sentCreds : sProp 𝕄 := bigSep Finset.univ fun k : Fin 15 => cred (tallyAt (sendCell c k) () N)

/-- What the waits for arrivals need. -/
def recvNeeds : sProp 𝕄 :=
  bigSep Finset.univ fun k : Fin 15 => iprop(cred (tallyAt (recvCell c k) () N) ∗ atPos EX (recvCell c k) 0 ∅ 0)

/-- With the last transfer issued nothing is owed: the waits for arrivals begin. -/
theorem recv_start : iprop(sendSt G c 15 ∗ recvNeeds c) ⊢ iprop(recvSt G c 0 ∗ sentCreds c) := by
  unfold sendSt recvSt waitSt recvNeeds sentCreds
  rw [rest_last, done_last, rest_zero, done_zero, oweR_last, bigSep_empty]
  iintro ⟨⟨HO, -, Hc⟩, Hn⟩
  isplitl [HO Hn]
  · isplitl [HO]; · iexact HO
    isplitl [Hn]; · iexact Hn
    iempintro
  iexact Hc

/-- Transfer 14, and the first two waits for arrivals. -/
theorem run_part22 (v672 v684 v696 : BitVec 32) (Q : PUnit → sProp 𝕄) :
    iprop(records G K ∗ sendSt G c 14 ∗ recvNeeds c)
      ⊢ iprop((recvSt G c 2 ∗ sentCreds c -∗ Q ⟨⟩)
          -∗ exec c (k0_part22 (F := F) xM (Memref.isWhole_whole _) oM (Memref.isWhole_whole _) gM (Memref.isWhole_whole _) wM (Memref.isWhole_whole _) cc0_scratch2 cc0_scratch3 c v672 v684 v696) Q) := by
  rw [k0_part22_eq_skeleton]; unfold k0_part22_skel
  simp only [Prog.lift, Prog.bind_op, Prog.bind_ret, Prog.pure_eq_ret]
  iintro ⟨#HR, Hs, Hn⟩ Hk
  iapply (send_step G K c ⟨_, k0_dev30_lt c⟩ 14 (by decide) (Fin.ext (k0_dev30_eq c)) (send_sem ⟨14, _⟩ _) (recv_sem ⟨14, _⟩ _)) $$ [Hs]
  · isplitr <;> iassumption
  iintro Hs
  ihave Hs := (recv_start G c) $$ [Hs Hn]
  · isplitl [Hs] <;> iassumption
  icases Hs with ⟨Hs, Hc⟩
  iapply (recv_step G K c 0 (by decide) (recv_sem ⟨0, _⟩ _)) $$ [Hs]
  · isplitr <;> iassumption
  iintro Hs
  iapply (recv_step G K c 1 (by decide) (recv_sem ⟨1, _⟩ _)) $$ [Hs]
  · isplitr <;> iassumption
  iintro Hs
  iapply exec_ret
  iapply Hk
  isplitl [Hs] <;> iassumption

theorem read_g (f : Gath F) :
    gM.view.readAt (Elt F) (Rect.unit (s := S16x128x64) ![0, 0, 0] S16x128x64.size inb_S16x128x64_S16x128x64_0_0_0).toLoadRect f = f :=
  Memref.readAt_unit_zero (Elt F) cc0_scratch0 zero3 _ f

/-- The receive cells' counters back at zero. -/
abbrev recvZero : sProp 𝕄 := bigSep Finset.univ fun k : Fin 15 => semVal (recvCell c k) 0
abbrev sendZero : sProp 𝕄 := bigSep Finset.univ fun k : Fin 15 => semVal (sendCell c k) 0

/-- The last two arrivals; then the whole buffer is read, the own slot through what the transfers leave of it. -/
theorem run_part26 (v840 : BitVec 32) (Q : _ → sProp 𝕄) :
    iprop(records G K ∗ recvSt G c 13 ∗ slot c c (shareDrop fullShare 15) G)
      ⊢ iprop(((∃ W, owes (c : Thread nD τ) 0 W) ∗ recvZero c ∗ slot c c (shareDrop fullShare 15) G ∗ bigSep Finset.univ (recvPay G c) -∗ Q (a26 G))
          -∗ exec c (k0_part26 (F := F) xM (Memref.isWhole_whole _) oM (Memref.isWhole_whole _) gM (Memref.isWhole_whole _) wM (Memref.isWhole_whole _) cc0_scratch2 cc0_scratch3 c v840) Q) := by
  rw [k0_part26_eq_skeleton]; unfold k0_part26_skel
  simp only [Prog.lift, Prog.bind_op, Prog.bind_ret, Prog.pure_eq_ret]
  iintro ⟨#HR, Hs, Hown⟩ Hk
  iapply (recv_step G K c 13 (by decide) (recv_sem ⟨13, _⟩ _)) $$ [Hs]
  · isplitr <;> iassumption
  iintro Hs
  iapply (recv_step G K c 14 (by decide) (recv_sem ⟨14, _⟩ _)) $$ [Hs]
  · isplitr <;> iassumption
  iintro Hs
  imod (wait_close G K recvS (recvPay G c) c (fun k => by
      iintro #HR
      ihave Hc := (record_recv G K c k) $$ HR
      icases Hc with ⟨#HI, -⟩
      iexists _; iexact HI)) $$ [Hs] with ⟨HO, Hz, Hp⟩
  · isplitr <;> iassumption
  ihave Hg := (gather_open G c) $$ [Hown Hp]
  · isplitl [Hown] <;> iassumption
  icases Hg with ⟨Hg, Hl⟩
  iapply (wp_load 𝒱₀ (c : Thread nD τ) none Set.univ (m := gM) (Finset.subset_univ _)) $$ Hg; iintro Hg
  rw [read_g]
  ihave Hg := (gather_close G c) $$ [Hg Hl]
  · isplitl [Hg] <;> iassumption
  icases Hg with ⟨Hown, Hp⟩
  iapply (show Q (a26 G) ⊢ exec c (.ret _) Q from exec_ret c)
  iapply Hk
  isplitl [HO]; · iexact HO
  isplitl [Hz]; · iexact Hz
  isplitl [Hown] <;> iassumption

end Cert.SortProof

end
-- ==== Proof.Waits.lean ====
/-
# The parts that only wait

Waits for arrivals, and waits for the own transfers.
-/
module

public import proofs.«01_k».proof.Proof.Slots
public import proofs.«01_k».proof.Proof.Chain
public import proofs.«01_k».proof.Proof.Signals

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (G : Gath F) (K : Dev nD × Kind → ℕ) (c : Dev nD)

/-- Waits 2 to 5 for arrivals. -/
theorem run_part23 (v708 v720 v732 v744 : BitVec 32) (Q : PUnit → sProp 𝕄) :
    iprop(records G K ∗ recvSt G c 2)
      ⊢ iprop((recvSt G c 6 -∗ Q ⟨⟩) -∗ exec c (k0_part23 (F := F) xM (Memref.isWhole_whole _) oM (Memref.isWhole_whole _) gM (Memref.isWhole_whole _) wM (Memref.isWhole_whole _) cc0_scratch2 cc0_scratch3 c v708 v720 v732 v744) Q) := by
  rw [k0_part23_eq_skeleton]; unfold k0_part23_skel
  simp only [Prog.lift, Prog.bind_op, Prog.bind_ret, Prog.pure_eq_ret]
  iintro ⟨#HR, Hs⟩ Hk
  iapply (recv_step G K c 2 (by decide) (recv_sem ⟨2, _⟩ _)) $$ [Hs]
  · isplitr <;> iassumption
  iintro Hs
  iapply (recv_step G K c 3 (by decide) (recv_sem ⟨3, _⟩ _)) $$ [Hs]
  · isplitr <;> iassumption
  iintro Hs
  iapply (recv_step G K c 4 (by decide) (recv_sem ⟨4, _⟩ _)) $$ [Hs]
  · isplitr <;> iassumption
  iintro Hs
  iapply (recv_step G K c 5 (by decide) (recv_sem ⟨5, _⟩ _)) $$ [Hs]
  · isplitr <;> iassumption
  iintro Hs
  iapply exec_ret
  iapply Hk
  iexact Hs

/-- Waits 6 to 9 for arrivals. -/
theorem run_part24 (v756 v768 v780 : BitVec 32) (Q : PUnit → sProp 𝕄) :
    iprop(records G K ∗ recvSt G c 6)
      ⊢ iprop((recvSt G c 10 -∗ Q ⟨⟩) -∗ exec c (k0_part24 (F := F) xM (Memref.isWhole_whole _) oM (Memref.isWhole_whole _) gM (Memref.isWhole_whole _) wM (Memref.isWhole_whole _) cc0_scratch2 cc0_scratch3 c v756 v768 v780) Q) := by
  rw [k0_part24_eq_skeleton]; unfold k0_part24_skel
  simp only [Prog.lift, Prog.bind_op, Prog.bind_ret, Prog.pure_eq_ret]
  iintro ⟨#HR, Hs⟩ Hk
  iapply (recv_step G K c 6 (by decide) (recv_sem ⟨6, _⟩ _)) $$ [Hs]
  · isplitr <;> iassumption
  iintro Hs
  iapply (recv_step G K c 7 (by decide) (recv_sem ⟨7, _⟩ _)) $$ [Hs]
  · isplitr <;> iassumption
  iintro Hs
  iapply (recv_step G K c 8 (by decide) (recv_sem ⟨8, _⟩ _)) $$ [Hs]
  · isplitr <;> iassumption
  iintro Hs
  iapply (recv_step G K c 9 (by decide) (recv_sem ⟨9, _⟩ _)) $$ [Hs]
  · isplitr <;> iassumption
  iintro Hs
  iapply exec_ret
  iapply Hk
  iexact Hs

/-- Waits 10 to 12 for arrivals. -/
theorem run_part25 (v792 v804 v816 v828 : BitVec 32) (Q : PUnit → sProp 𝕄) :
    iprop(records G K ∗ recvSt G c 10)
      ⊢ iprop((recvSt G c 13 -∗ Q ⟨⟩) -∗ exec c (k0_part25 (F := F) xM (Memref.isWhole_whole _) oM (Memref.isWhole_whole _) gM (Memref.isWhole_whole _) wM (Memref.isWhole_whole _) cc0_scratch2 cc0_scratch3 c v792 v804 v816 v828) Q) := by
  rw [k0_part25_eq_skeleton]; unfold k0_part25_skel
  simp only [Prog.lift, Prog.bind_op, Prog.bind_ret, Prog.pure_eq_ret]
  iintro ⟨#HR, Hs⟩ Hk
  iapply (recv_step G K c 10 (by decide) (recv_sem ⟨10, _⟩ _)) $$ [Hs]
  · isplitr <;> iassumption
  iintro Hs
  iapply (recv_step G K c 11 (by decide) (recv_sem ⟨11, _⟩ _)) $$ [Hs]
  · isplitr <;> iassumption
  iintro Hs
  iapply (recv_step G K c 12 (by decide) (recv_sem ⟨12, _⟩ _)) $$ [Hs]
  · isplitr <;> iassumption
  iintro Hs
  iapply exec_ret
  iapply Hk
  iexact Hs

/-- Waits 3 to 6 for the own transfers. -/
theorem run_part42 (Q : PUnit → sProp 𝕄) :
    iprop(records G K ∗ sentSt G c 3)
      ⊢ iprop((sentSt G c 7 -∗ Q ⟨⟩) -∗ exec c (k0_part42 (F := F) xM (Memref.isWhole_whole _) oM (Memref.isWhole_whole _) gM (Memref.isWhole_whole _) wM (Memref.isWhole_whole _) cc0_scratch2 cc0_scratch3 c ) Q) := by
  rw [k0_part42_eq_skeleton]; unfold k0_part42_skel
  simp only [Prog.lift, Prog.bind_op, Prog.bind_ret, Prog.pure_eq_ret]
  iintro ⟨#HR, Hs⟩ Hk
  iapply (sent_step G K c 3 (by decide) (send_sem ⟨3, _⟩ _)) $$ [Hs]
  · isplitr <;> iassumption
  iintro Hs
  iapply (sent_step G K c 4 (by decide) (send_sem ⟨4, _⟩ _)) $$ [Hs]
  · isplitr <;> iassumption
  iintro Hs
  iapply (sent_step G K c 5 (by decide) (send_sem ⟨5, _⟩ _)) $$ [Hs]
  · isplitr <;> iassumption
  iintro Hs
  iapply (sent_step G K c 6 (by decide) (send_sem ⟨6, _⟩ _)) $$ [Hs]
  · isplitr <;> iassumption
  iintro Hs
  iapply exec_ret
  iapply Hk
  iexact Hs

/-- Waits 7 to 11 for the own transfers. -/
theorem run_part43 (Q : PUnit → sProp 𝕄) :
    iprop(records G K ∗ sentSt G c 7)
      ⊢ iprop((sentSt G c 12 -∗ Q ⟨⟩) -∗ exec c (k0_part43 (F := F) xM (Memref.isWhole_whole _) oM (Memref.isWhole_whole _) gM (Memref.isWhole_whole _) wM (Memref.isWhole_whole _) cc0_scratch2 cc0_scratch3 c ) Q) := by
  rw [k0_part43_eq_skeleton]; unfold k0_part43_skel
  simp only [Prog.lift, Prog.bind_op, Prog.bind_ret, Prog.pure_eq_ret]
  iintro ⟨#HR, Hs⟩ Hk
  iapply (sent_step G K c 7 (by decide) (send_sem ⟨7, _⟩ _)) $$ [Hs]
  · isplitr <;> iassumption
  iintro Hs
  iapply (sent_step G K c 8 (by decide) (send_sem ⟨8, _⟩ _)) $$ [Hs]
  · isplitr <;> iassumption
  iintro Hs
  iapply (sent_step G K c 9 (by decide) (send_sem ⟨9, _⟩ _)) $$ [Hs]
  · isplitr <;> iassumption
  iintro Hs
  iapply (sent_step G K c 10 (by decide) (send_sem ⟨10, _⟩ _)) $$ [Hs]
  · isplitr <;> iassumption
  iintro Hs
  iapply (sent_step G K c 11 (by decide) (send_sem ⟨11, _⟩ _)) $$ [Hs]
  · isplitr <;> iassumption
  iintro Hs
  iapply exec_ret
  iapply Hk
  iexact Hs

end Cert.SortProof

end
-- ==== Proof.Slab.lean ====
/-
# The merged array stored, and the device's slab of it loaded

Around the waits for the own transfers.
-/
module

public import proofs.«01_k».proof.Proof.Slots
public import proofs.«01_k».proof.Proof.Chain
public import proofs.«01_k».proof.Proof.Arrivals
public import proofs.«01_k».proof.Proof.Waits

@[expose] public section

noncomputable section

namespace Cert.SortProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (G : Gath F) (K : Dev nD × Kind → ℕ) (c : Dev nD)

abbrev wLoc : Loc nD τ sig := (c : Thread nD τ).loc cc0_scratch1

theorem write_w (f w : (cc0_scratch1 : Ref sig .tc).ty.Contents (Elt F)) :
    (wM.access (Rect.unit (s := S8x128x128) ![0, 0, 0] S8x128x128.size inb_S8x128x128_S8x128x128_0_0_0) : View sig .tc _ _ _).write (Elt F) f w Finset.univ = w :=
  Memref.write_access_unit_zero_univ (Elt F) cc0_scratch1 zero3 _ f w

/-- What the waits for the own transfers need. -/
def sentNeeds : sProp 𝕄 := iprop(sentCreds c ∗ bigSep Finset.univ fun k : Fin 15 => atPos EX (sendCell c k) 0 ∅ 0)

theorem sent_start : iprop((∃ W, owes (c : Thread nD τ) 0 W) ∗ sentNeeds c) ⊢ sentSt G c 0 := by
  unfold sentSt waitSt sentNeeds sentCreds
  rw [rest_zero, done_zero, bigSep_empty]
  simp only [bigSep_sep']
  iintro ⟨HO, Hc, Hat⟩
  isplitl [HO]; · iexact HO
  isplitl [Hc Hat]
  · isplitl [Hc] <;> iassumption
  iempintro

/-- The merged array is stored; the first three waits for the own transfers. -/
theorem run_part41 (u : FVec F S4x128x128 .bf16) (v : FVec F S4x1x128x128 .bf16) (Q : PUnit → sProp 𝕄) :
    iprop(records G K ∗ (∃ W, owes (c : Thread nD τ) 0 W) ∗ sentNeeds c ∗ (∃ f : Buf (Elt F) (wLoc c), wLoc c ↦{fullShare} f))
      ⊢ iprop((sentSt G c 3 ∗ (wLoc c ↦{fullShare} (k0_pay110 u v : (cc0_scratch1 : Ref sig .tc).ty.Contents (Elt F))) -∗ Q ⟨⟩)
          -∗ exec c (k0_part41 (F := F) xM (Memref.isWhole_whole _) oM (Memref.isWhole_whole _) gM (Memref.isWhole_whole _) wM (Memref.isWhole_whole _) cc0_scratch2 cc0_scratch3 c u v) Q) := by
  rw [k0_part41_eq_skeleton]; unfold k0_part41_skel
  simp only [Prog.lift, Prog.bind_op, Prog.bind_ret, Prog.pure_eq_ret]
  iintro ⟨#HR, HO, Hn, ⟨%f, Hw⟩⟩ Hk
  iapply (wp_load 𝒱₀ (c : Thread nD τ) none Set.univ (m := wM) (Finset.subset_univ _)) $$ Hw; iintro Hw
  iapply (wp_store 𝒱₀ (c : Thread nD τ) none Set.univ (m := wM) (r := Rect.unit (s := S8x128x128) ![0, 0, 0] S8x128x128.size inb_S8x128x128_S8x128x128_0_0_0)
    (Mk := Finset.univ) (Finset.subset_univ _)) $$ Hw; iintro Hw
  rw [write_w]
  ihave Hs := (sent_start G c) $$ [HO Hn]
  · isplitl [HO] <;> iassumption
  iapply (sent_step G K c 0 (by decide) (send_sem ⟨0, _⟩ _)) $$ [Hs]
  · isplitr <;> iassumption
  iintro Hs
  iapply (sent_step G K c 1 (by decide) (send_sem ⟨1, _⟩ _)) $$ [Hs]
  · isplitr <;> iassumption
  iintro Hs
  iapply (sent_step G K c 2 (by decide) (send_sem ⟨2, _⟩ _)) $$ [Hs]
  · isplitr <;> iassumption
  iintro Hs
  iapply exec_ret
  iapply Hk
  isplitl [Hs] <;> iassumption

/-- The device's slab of the merged array. -/
def slab (W : (cc0_scratch1 : Ref sig .tc).ty.Contents (Elt F)) : FVec F S1x128x128 .bf16 :=
  wM.view.readAt (Elt F) (Rect.unit (s := S8x128x128) (k0_off3 c) S1x128x128.size (k0_off3_inb c)).toLoadRect W

/-- The last three waits for the own transfers, and the load of the device's slab. -/
theorem run_part44 (W : (cc0_scratch1 : Ref sig .tc).ty.Contents (Elt F)) (v3 : BitVec 32) (Q : _ → sProp 𝕄) :
    iprop(records G K ∗ sentSt G c 12 ∗ (wLoc c ↦{fullShare} W))
      ⊢ iprop((sentSt G c 15 ∗ (wLoc c ↦{fullShare} W) -∗ Q ⟨a44 (devWord c) (slab c W), b44 (devWord c) (slab c W), ones3, 128#32⟩)
          -∗ exec c (k0_part44 (F := F) xM (Memref.isWhole_whole _) oM (Memref.isWhole_whole _) gM (Memref.isWhole_whole _) wM (Memref.isWhole_whole _) cc0_scratch2 cc0_scratch3 c (devWord c) v3) Q) := by
  rw [k0_part44_eq_skeleton]; unfold k0_part44_skel
  simp only [Prog.lift, Prog.bind_op, Prog.bind_ret, Prog.pure_eq_ret]
  iintro ⟨#HR, Hs, Hw⟩ Hk
  iapply (sent_step G K c 12 (by decide) (send_sem ⟨12, _⟩ _)) $$ [Hs]
  · isplitr <;> iassumption
  iintro Hs
  iapply (sent_step G K c 13 (by decide) (send_sem ⟨13, _⟩ _)) $$ [Hs]
  · isplitr <;> iassumption
  iintro Hs
  iapply (sent_step G K c 14 (by decide) (send_sem ⟨14, _⟩ _)) $$ [Hs]
  · isplitr <;> iassumption
  iintro Hs
  iapply (wp_load 𝒱₀ (c : Thread nD τ) none Set.univ (m := wM) (Finset.subset_univ _)) $$ Hw; iintro Hw
  iapply (show Q ⟨a44 (devWord c) (slab c W), b44 (devWord c) (slab c W), ones3, 128#32⟩ ⊢ exec c (.ret _) Q from exec_ret c)
  iapply Hk
  isplitl [Hs] <;> iassumption

abbrev oLoc : Loc nD τ sig := (c : Thread nD τ).loc cc0_stg1_0

theorem write_o (f w : (cc0_stg1_0 : Ref sig .tc).ty.Contents (Elt F)) :
    (oM.access (Rect.unit (s := S128x64) ![0, 0] S128x64.size inb_S128x64_S128x64_0_0) : View sig .tc _ _ _).write (Elt F) f w Finset.univ = w :=
  Memref.write_access_unit_zero_univ (Elt F) cc0_stg1_0 zero2 _ f w

/-- The last stretch's result, after a load whose value is not used. -/
theorem run_part47 (w : FVec F S1x128x128 .bf16) (v : BitVec 32) (Q : _ → sProp 𝕄) :
    iprop(∃ f : Buf (Elt F) (oLoc c), oLoc c ↦{fullShare} f)
      ⊢ iprop(((∃ f : Buf (Elt F) (oLoc c), oLoc c ↦{fullShare} f) -∗ Q (finish v w))
          -∗ exec c (k0_part47 (F := F) xM (Memref.isWhole_whole _) oM (Memref.isWhole_whole _) gM (Memref.isWhole_whole _) wM (Memref.isWhole_whole _) cc0_scratch2 cc0_scratch3 k0_pay123 k0_pay124 (a46 v w) (b46 v w)) Q) := by
  rw [k0_part47_eq_skeleton]; unfold k0_part47_skel
  simp only [Prog.lift, Prog.bind_op, Prog.bind_ret, Prog.pure_eq_ret]
  iintro ⟨%f, Hf⟩ Hk
  iapply (wp_load 𝒱₀ (c : Thread nD τ) none Set.univ (m := oM) (Finset.subset_univ _)) $$ Hf; iintro Hf
  iapply (show Q (finish v w) ⊢ exec c (.ret _) Q from exec_ret c)
  iapply Hk
  iexists f; iexact Hf

end Cert.SortProof

end
-- ==== Proof.Contents.lean ====
/-
# What the buffers hold

The blocks as staged, the gather buffer when all have arrived, and the result.
-/
module

public import proofs.«01_k».proof.Proof.Slots
public import proofs.«01_k».proof.Proof.Chain
public import Idealize.ShloMosaic.Lib.ValueIdxCore
public import proofs.«01_k».proof.Proof.Slab

@[expose] public section

noncomputable section

namespace Cert.SortProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (G : Gath F) (K : Dev nD × Kind → ℕ) (c : Dev nD)

variable (m : (ℓ : Loc nD τ sig) → Buf (Elt F) ℓ) (ρ : Dev nD → PrngReg)

/-- The state the kernel starts from. -/
def s₀ : MemSt nD τ sig (Elt F) := ⟨m, fun _ => 0, ρ⟩

/-- Device `c`'s own block, as staged. -/
def xstg : (cc0_stg0_0 : Ref sig .tc).ty.Contents (Elt F) :=
  (win0_0.blk (0 : Fin 1)).view.read (Elt F) ((s₀ m ρ).mem ((c : Thread nD τ).loc main_arg0))

/-- The gather buffer once every block has arrived: slot `b` is device `b`'s sorted block. -/
def gAll : Gath F := fun i =>
  ownSort (oddBit (i 0 : Fin 16)) (xstg (i 0 : Fin 16) m ρ) (ix3 (0 : Fin 1) (i 1 : Fin 128) (i 2 : Fin 64))

/-- Device `c`'s result. -/
def outAt : (cc0_stg1_0 : Ref sig .tc).ty.Contents (Elt F) := finish (devWord c) (slab c (packed (gAll m ρ)))

/-- Storing the sorted block fills the own slot with the buffer's final contents. -/
theorem write_own (f : Gath F) :
    ∀ i ∈ slotSet c, (gM.access (slotR c)).write (Elt F) f (ownSort (oddBit c) (xstg c m ρ)) Finset.univ i = gAll m ρ i := by
  intro i hi
  have h0 : (i 0 : Fin 16) = c := Fin.ext (mem_slotSet.mp hi)
  rw [← slotR_set] at hi
  obtain ⟨x, -, rfl⟩ := Finset.mem_map.mp hi
  rw [View.write_emb_of_mem _ _ (Finset.mem_univ x), cast_eq]
  unfold gAll
  rw [h0]
  congr 1
  have e (a) : ((gM.access (slotR c)).emb x a).val = k0_off1 c a + (x a).val := by
    show k0_off1 c a + 1 * (x a).val = _
    rw [Nat.one_mul]
  have e1 := e 1
  have e2 := e 2
  rw [k0_off1_eq] at e1 e2
  refine (eq_ix3 x).trans ?_
  congr 1
  · exact Subsingleton.elim (α := Fin 1) _ _
  · exact Fin.ext (e1.trans (Nat.zero_add _)).symm
  · exact Fin.ext (e2.trans (Nat.zero_add _)).symm

end Cert.SortProof

end
-- ==== Proof.Body.lean ====
/-
# The body

Its parts run one after the other, at any device.
-/
module

public import proofs.«01_k».proof.Proof.Slots
public import proofs.«01_k».proof.Proof.Chain
public import proofs.«01_k».proof.Proof.Contents

@[expose] public section

noncomputable section

namespace Cert.SortProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (G : Gath F) (K : Dev nD × Kind → ℕ) (c : Dev nD)

variable (m : (ℓ : Loc nD τ sig) → Buf (Elt F) ℓ) (ρ : Dev nD → PrngReg)

/-- What a device starts from, of the exchange's bookkeeping. -/
def ghost : sProp 𝕄 :=
  iprop(records G K
    ∗ (bigSep Finset.univ fun k : Fin 15 => dutyTok EX (barCell (nx k c)) 0 k)
    ∗ sendToks c
    ∗ atPos EX (barCell c) 0 ∅ 0
    ∗ (bigSep Finset.univ fun k : Fin 15 => atPos EX (sendCell c k) 0 ∅ 0)
    ∗ bigSep Finset.univ fun k : Fin 15 => atPos EX (recvCell c k) 0 ∅ 0)

/-- The credits it waits with. -/
def credits : sProp 𝕄 :=
  iprop(cred (tallyAt (barCell c) () 15) ∗ bigSep Finset.univ fun k : Fin 15 => cred (tallyAt (recvCell c k) () N))

/-- The exchange's semaphores at zero. -/
def zeros : sProp 𝕄 := iprop(sendZero c ∗ recvZero c ∗ semVal (barCell c) 0)

/-- What the body runs on. -/
def pre (x : (cc0_stg0_0 : Ref sig .tc).ty.Contents (Elt F)) : sProp 𝕄 :=
  iprop(ghost G K c ∗ credits c ∗ levAts L lv
    ∗ (∃ f : Gath F, gLoc c ↦{fullShare} f) ∗ (∃ f : Buf (Elt F) (wLoc c), wLoc c ↦{fullShare} f)
    ∗ (∃ W, owes (c : Thread nD τ) (oweB c 0) W)
    ∗ (xLoc c ↦{fullShare} x) ∗ (∃ f : Buf (Elt F) (oLoc c), oLoc c ↦{fullShare} f))

/-- What it leaves. -/
def post (x : (cc0_stg0_0 : Ref sig .tc).ty.Contents (Elt F)) (y : (cc0_stg1_0 : Ref sig .tc).ty.Contents (Elt F)) : sProp 𝕄 :=
  iprop(zeros c
    ∗ (∃ f : Gath F, gLoc c ↦{fullShare} f) ∗ (∃ f : Buf (Elt F) (wLoc c), wLoc c ↦{fullShare} f)
    ∗ (∃ W, owes (c : Thread nD τ) 0 W)
    ∗ (xLoc c ↦{fullShare} x) ∗ (oLoc c ↦{fullShare} y))

/-- The whole buffer taken apart: the own slot, and with the signals' tokens the others. -/
theorem sig_start (f : Gath F) :
    iprop((∃ W, owes (c : Thread nD τ) (oweB c 0) W) ∗ (gLoc c ↦{fullShare} f)
        ∗ bigSep Finset.univ fun k : Fin 15 => dutyTok EX (barCell (nx k c)) 0 k)
      ⊢ iprop(sigSt c 0 ∗ slot c c fullShare f) := by
  rw [slots_on]
  unfold sigSt
  rw [rest_zero]
  simp only [bigSep_sep']
  iintro ⟨HO, ⟨Hown, Hs⟩, Ht⟩
  isplitr [Hown]
  · isplitl [HO]; · iexact HO
    isplitl [Ht]; · iexact Ht
    iapply (show (bigSep Finset.univ fun k : Fin 15 => slot c (nx k c) fullShare f)
      ⊢ bigSep Finset.univ fun k : Fin 15 => iprop(∃ f, slot (F := F) c (nx k c) fullShare f) from bigSep_mono fun k _ =>
        show slot c (nx k c) fullShare f ⊢ iprop(∃ f, slot (F := F) c (nx k c) fullShare f) from by
          iintro H
          iexists f; iexact H)
    iexact Hs
  iexact Hown

/-- A part that only computes. -/
theorem exec_pure {α : Type} {p : Prog (TpuEff nD τ sig (Elt F) Λ₀ .tc) α} {a : α} (h : p = .ret a) {Q : α → sProp 𝕄} :
    Q a ⊢ exec c p Q := by
  rw [h]; exact exec_ret c

set_option maxHeartbeats 1600000 in
/-- The body, run from start to end. -/
theorem sound (x : (cc0_stg0_0 : Ref sig .tc).ty.Contents (Elt F))
    (hG : ∀ f : Gath F, ∀ i ∈ slotSet c, (gM.access (slotR c)).write (Elt F) f (ownSort (oddBit c) x) Finset.univ i = G i)
    (Q : PUnit → sProp 𝕄) :
    iprop(pre G K c x ∗ (post c x (finish (devWord c) (slab c (packed G))) -∗ Q ⟨⟩))
      ⊢ exec c (cc0_body (F := F) xM (Memref.isWhole_whole _) oM (Memref.isWhole_whole _) gM (Memref.isWhole_whole _) wM (Memref.isWhole_whole _) cc0_scratch2 cc0_scratch3) Q := by
  rw [cc0_body_eq_skeleton]; unfold cc0_body_skel
  unfold pre ghost credits
  iintro ⟨⟨⟨#HR, Hbt, Hst, HatB, HatS, HatR⟩, ⟨HcB, HcR⟩, #Hlev, ⟨%g0, Hg⟩, Hw, HO, Hx, Ho⟩, Hk⟩
  ihave Hs := (sig_start c g0) $$ [HO Hg Hbt]
  · isplitl [HO]; · iexact HO
    isplitl [Hg] <;> iassumption
  icases Hs with ⟨Hs, Hown⟩
  unfold exec
  rw [wp_bind]
  iapply (run_part1 G K c) $$ [Hs]
  · isplitr <;> iassumption
  iintro Hs
  rw [wp_bind]
  iapply (run_part2 G K c) $$ [Hs]
  · isplitr <;> iassumption
  iintro Hs
  rw [wp_bind]
  iapply (run_part3 G K c _ x) $$ [Hs Hx]
  · isplitr; · iexact HR
    isplitl [Hs] <;> iassumption
  iintro ⟨Hs, Hx⟩
  rw [wp_bind]
  iapply (exec_pure c (part4_eq _ _ _ _ _ _ _ _ _ _ x))
  rw [wp_bind]
  iapply (exec_pure c (part5_eq _ _ _ _ _ _ _ _ _ _ x))
  rw [wp_bind]
  iapply (exec_pure c (part6_eq _ _ _ _ _ _ _ _ _ _ x))
  rw [wp_bind]
  iapply (exec_pure c (part7_eq _ _ _ _ _ _ _ _ _ _ x))
  rw [wp_bind]
  iapply (exec_pure c (part8_eq _ _ _ _ _ _ _ _ _ _ x))
  rw [wp_bind]
  iapply (exec_pure c (part9_eq _ _ _ _ _ _ _ _ _ _ x))
  rw [wp_bind]
  iapply (exec_pure c (part10_eq _ _ _ _ _ _ _ _ _ _ x))
  rw [wp_bind]
  iapply (exec_pure c (part11_eq _ _ _ _ _ _ _ _ _ _ x))
  rw [wp_bind]
  iapply (exec_pure c (part12_eq _ _ _ _ _ _ _ _ _ _ x))
  rw [wp_bind]
  iapply (exec_pure c (part13_eq _ _ _ _ _ _ _ _ _ _ _ x))
  rw [wp_bind]
  iapply (exec_pure c (part14_eq _ _ _ _ _ _ _ _ _ _ _ x))
  rw [wp_bind]
  iapply (exec_pure c (part15_eq _ _ _ _ _ _ _ _ _ _ _ x))
  ihave Hown := (show slot c c fullShare g0 ⊢ iprop(∃ f, slot (F := F) c c fullShare f) from by
    iintro H
    iexists g0; iexact H) $$ Hown
  rw [wp_bind]
  iapply (run_part16 G K c x hG) $$ [Hs Hown HcB HatB Hst]
  · isplitr; · iexact HR
    isplitl [Hs]; · iexact Hs
    isplitl [Hown]; · iexact Hown
    isplitl [HcB]; · iexact HcB
    isplitl [HatB]; · iexact HatB
    isplitr; · iexact Hlev
    iexact Hst
  iintro %r16 ⟨Hs, HatB, Hown⟩
  rw [wp_bind]
  iapply (run_part17 G K c _) $$ [Hs]
  · isplitr; · iexact HR
    iexact Hs
  iintro %r17 Hs
  rw [wp_bind]
  iapply (run_part18 G K c _ _ _) $$ [Hs]
  · isplitr; · iexact HR
    iexact Hs
  iintro %r18 Hs
  rw [wp_bind]
  iapply (run_part19 G K c _) $$ [Hs]
  · isplitr; · iexact HR
    iexact Hs
  iintro %r19 Hs
  rw [wp_bind]
  iapply (run_part20 G K c _ _) $$ [Hs]
  · isplitr; · iexact HR
    iexact Hs
  iintro %r20 Hs
  rw [wp_bind]
  iapply (run_part21 G K c _) $$ [Hs]
  · isplitr; · iexact HR
    iexact Hs
  iintro %r21 Hs
  ihave Hn := (show iprop((bigSep Finset.univ fun k : Fin 15 => cred (tallyAt (recvCell c k) () N))
      ∗ bigSep Finset.univ fun k : Fin 15 => atPos EX (recvCell c k) 0 ∅ 0) ⊢ recvNeeds (F := F) c from by
    unfold recvNeeds; rw [bigSep_sep']) $$ [HcR HatR]
  · isplitl [HcR] <;> iassumption
  rw [wp_bind]
  iapply (run_part22 G K c _ _ _) $$ [Hs Hn]
  · isplitr; · iexact HR
    isplitl [Hs]; · iexact Hs
    iexact Hn
  iintro ⟨Hs, Hc⟩
  rw [wp_bind]
  iapply (run_part23 G K c _ _ _ _) $$ [Hs]
  · isplitr; · iexact HR
    iexact Hs
  iintro Hs
  rw [wp_bind]
  iapply (run_part24 G K c _ _ _) $$ [Hs]
  · isplitr; · iexact HR
    iexact Hs
  iintro Hs
  rw [wp_bind]
  iapply (run_part25 G K c _ _ _ _) $$ [Hs]
  · isplitr; · iexact HR
    iexact Hs
  iintro Hs
  rw [wp_bind]
  iapply (run_part26 G K c _) $$ [Hs Hown]
  · isplitr; · iexact HR
    isplitl [Hs]; · iexact Hs
    iexact Hown
  iintro ⟨HO, HzR, Hown, Hp⟩
  rw [wp_bind]
  iapply (exec_pure c (part27_eq _ _ _ _ _ _ _ _ _ _ G))
  rw [wp_bind]
  iapply (exec_pure c (part28_eq _ _ _ _ _ _ _ _ _ _ G))
  rw [wp_bind]
  iapply (exec_pure c (part29_eq _ _ _ _ _ _ _ _ _ _ G))
  rw [wp_bind]
  iapply (exec_pure c (part30_eq _ _ _ _ _ _ _ _ _ _ G))
  rw [wp_bind]
  iapply (exec_pure c (part31_eq _ _ _ _ _ _ _ _ _ _ G))
  rw [wp_bind]
  iapply (exec_pure c (part32_eq _ _ _ _ _ _ _ _ _ _ G))
  rw [wp_bind]
  iapply (exec_pure c (part33_eq _ _ _ _ _ _ _ _ _ _ G))
  rw [wp_bind]
  iapply (exec_pure c (part34_eq _ _ _ _ _ _ _ _ _ _ G))
  rw [wp_bind]
  iapply (exec_pure c (part35_eq _ _ _ _ _ _ _ _ _ _ G))
  rw [wp_bind]
  iapply (exec_pure c (part36_eq _ _ _ _ _ _ _ _ _ _ G))
  rw [wp_bind]
  iapply (exec_pure c (part37_eq _ _ _ _ _ _ _ _ _ _ G))
  rw [wp_bind]
  iapply (exec_pure c (part38_eq _ _ _ _ _ _ _ _ _ _ G))
  rw [wp_bind]
  iapply (exec_pure c (part39_eq _ _ _ _ _ _ _ _ _ _ G))
  rw [wp_bind]
  iapply (exec_pure c (part40_eq _ _ _ _ _ _ _ _ _ _ G))
  ihave Hn := (show iprop(sentCreds c ∗ bigSep Finset.univ fun k : Fin 15 => atPos EX (sendCell c k) 0 ∅ 0)
      ⊢ sentNeeds (F := F) c from BI.Entails.refl _) $$ [Hc HatS]
  · isplitl [Hc] <;> iassumption
  rw [wp_bind]
  iapply (run_part41 G K c _ _) $$ [HO Hn Hw]
  · isplitr; · iexact HR
    isplitl [HO]; · iexact HO
    isplitl [Hn]; · iexact Hn
    iexact Hw
  iintro ⟨Hs, Hw⟩
  rw [wp_bind]
  iapply (run_part42 G K c) $$ [Hs]
  · isplitr; · iexact HR
    iexact Hs
  iintro Hs
  rw [wp_bind]
  iapply (run_part43 G K c) $$ [Hs]
  · isplitr; · iexact HR
    iexact Hs
  iintro Hs
  rw [wp_bind]
  iapply (run_part44 G K c (packed G) _) $$ [Hs Hw]
  · isplitr; · iexact HR
    isplitl [Hs]; · iexact Hs
    iexact Hw
  iintro ⟨Hs, Hw⟩
  rw [wp_bind]
  iapply (exec_pure c (part45_eq _ _ _ _ _ _ _ _ _ _ _ _))
  rw [wp_bind]
  iapply (exec_pure c (part46_eq _ _ _ _ _ _ _ _ _ _ _ _))
  rw [wp_bind]
  iapply (run_part47 c) $$ Ho
  iintro ⟨%o0, Ho⟩
  simp only [Prog.lift, Prog.bind_op, Prog.bind_ret, Prog.pure_eq_ret]
  iapply (wp_store 𝒱₀ (c : Thread nD τ) none Set.univ (m := oM) (r := Rect.unit (s := S128x64) ![0, 0] S128x64.size inb_S128x64_S128x64_0_0)
    (Mk := Finset.univ) (Finset.subset_univ _)) $$ Ho; iintro Ho
  rw [write_o]
  imod (wait_close G K sendS (sendPay G c) c (fun k => by
      iintro #HR
      ihave Hc := (record_send G K c k) $$ HR
      icases Hc with ⟨#HI, -⟩
      iexists _; iexact HI)) $$ [Hs] with ⟨HO, HzS, Hps⟩
  · isplitr <;> iassumption
  ihave Hc := (record_bar G K c) $$ HR
  icases Hc with ⟨#HI, -⟩
  imod (Rounds.cell_close EX (ringRd G) (Set.mem_univ (K (c, .inl ()))) (fun h => h) (R := 1) (duties_later G (barCell c))) $$ [HatB] with HzB
  · isplitr; · iexact HI
    iexact HatB
  ihave Hg := (gather_whole G c) $$ [Hown Hp Hps]
  · isplitl [Hown]; · iexact Hown
    isplitl [Hp] <;> iassumption
  iapply (exec_ret c)
  iapply Hk
  unfold post zeros
  isplitl [HzS HzR HzB]
  · isplitl [HzS]; · iexact HzS
    isplitl [HzR] <;> iassumption
  isplitl [Hg]; · iexists G; iexact Hg
  isplitl [Hw]; · iexists _; iexact Hw
  isplitl [HO]; · iexact HO
  isplitl [Hx] <;> iassumption

end Cert.SortProof

end
-- ==== Proof.Pass.lean ====
/-
# The launch

The kernel's one pass over its single block as an obligation, the exchange's cells and tokens dealt to the devices, and the
run of the whole program.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.SortProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## The one pass -/

/-- What a device's body starts from. -/
def start (c : Dev nD) : sProp 𝕄 := iprop((∃ K, ghost (gAll m ρ) K c) ∗ credits c ∗ levAts L lv)

/-- The two scratch buffers, whatever they hold. -/
def scratch (c : Dev nD) : sProp 𝕄 :=
  iprop((∃ f : Gath F, gLoc c ↦{fullShare} f) ∗ (∃ f : Buf (Elt F) (wLoc c), wLoc c ↦{fullShare} f))

/-- The pass: the block comes in, the result goes out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg c m ρ
    | ⟨1, _⟩ => outAt c m ρ
  Φ t := match t with
    | ⟨0, _⟩ => iprop(start m ρ c ∗ scratch c)
    | ⟨_ + 1, _⟩ => iprop(zeros c ∗ scratch c)
  q _ := fullShare
  owed t := match t with
    | ⟨0, _⟩ => oweB c 0
    | ⟨_ + 1, _⟩ => 0

theorem bigSep_windows (Φ : Fin cfg0.W → sProp 𝕄) : bigSep Finset.univ Φ = iprop(Φ (0 : Fin 2) ∗ Φ (1 : Fin 2)) := bigSep_W0 Φ

theorem fetched (t : Fin cfg0.N) : (cfg0.win (0 : Fin 2)).fetch t = true := by rw [fin_N0 t]; rfl

/-- Owning a whole buffer at given contents. -/
abbrev held (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]

/-- What the pass hands the body, and what it takes back. -/
def bodyPre (c : Dev nD) : sProp 𝕄 :=
  iprop((start m ρ c ∗ scratch c) ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))
def bodyPost (c : Dev nD) : sProp 𝕄 :=
  iprop((zeros c ∗ scratch c) ∗ (dats m ρ 0 c).owesAt () t0_0.succ ∗ held c cc0_stg0_0 (xstg c m ρ) ∗ held c cc0_stg1_0 (outAt c m ρ))

theorem sound_pass (c : Dev nD) :
    bodyPre m ρ c ⊢ exec c (cc0_body (F := F) xM (Memref.isWhole_whole _) oM (Memref.isWhole_whole _) gM (Memref.isWhole_whole _)
      wM (Memref.isWhole_whole _) cc0_scratch2 cc0_scratch3) (fun _ => bodyPost m ρ c) := by
  unfold bodyPre start scratch Dat.owesAt Pipeline.owesWithin
  iintro ⟨⟨⟨⟨%K, Hg⟩, Hc, Hl⟩, Hsg, Hsw⟩, ⟨%W, %hW, HO⟩, ⟨%d0, %x, %hx, Hx⟩, ⟨%d1, %y, %hy, Hy⟩⟩
  have hx : x = xstg c m ρ := by rw [hx]; unfold Dat.before; rw [if_pos (fetched t0_0)]; rfl
  subst hx
  iapply (sound (gAll m ρ) K c (xstg c m ρ) (write_own c m ρ) (fun _ => bodyPost m ρ c))
  isplitr []
  · unfold pre
    isplitl [Hg]; · iexact Hg
    isplitl [Hc]; · iexact Hc
    isplitl [Hl]; · iexact Hl
    isplitl [Hsg]; · iexact Hsg
    isplitl [Hsw]; · iexact Hsw
    isplitl [HO]; · iexists W; iexact HO
    isplitl [Hx]; · iexact Hx
    iexists y; iexact Hy
  unfold post bodyPost scratch Dat.owesAt Pipeline.owesWithin
  iintro ⟨Hz, Hsg, Hsw, ⟨%W', HO⟩, Hx, Hy⟩
  isplitl [Hz Hsg Hsw]
  · isplitl [Hz]; · iexact Hz
    isplitl [Hsg] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hy

set_option maxRecDepth 20000 in
theorem body_obligation (c : Dev nD) : BodyObligation (dats (F := F) m ρ 0 c) (defs₀ (F := F)) 𝒱₀ () Set.univ := fun t => by
  rw [fin_N0 t]
  rw [bigSep_windows, bigSep_windows]
  simp only [owns_held]
  exact sound_pass m ρ c

end Cert.SortProof

end
-- ==== Proof.Deal.lean ====
/-
# Cells, tokens and credits dealt to the devices

At launch each device is given its own cells' tokens; every device pays with its neighbours'. All offsets at once: the
pairs (device, offset) are turned round by the offset.
-/
module

public import proofs.«01_k».proof.Proof.Pass
public import proofs.«01_k».proof.Proof.Gen.KernelIdeal.Launch
public import Idealize.ShloMosaic.Lib.Pipeline.Launch
public import Idealize.ShloMosaic.Lib.Pipeline.Kit

@[expose] public section

noncomputable section

namespace Cert.SortProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareTok shareDrop)

variable {F : FTy → Type} [FloatOps F]

local notation "𝕄" => MT nD τ sig Unit (Elt F) ℕ UU ℕ

/-- Turning each pair (device, offset) on by its offset. -/
def shear : Dev nD × Fin 15 ≃ Dev nD × Fin 15 where
  toFun p := (nx p.2 p.1, p.2)
  invFun p := (nx p.2.rev p.1, p.2)
  left_inv p := Prod.ext (nx_rev_nx p.2 p.1) rfl
  right_inv p := Prod.ext (nx_nx_rev p.2 p.1) rfl

/-- What every device has for every offset, dealt to the device that many places before. -/
theorem deal (Φ : Dev nD → Fin 15 → sProp 𝕄) :
    (bigSep Finset.univ fun c : Dev nD => bigSep Finset.univ fun k : Fin 15 => Φ c k)
      = bigSep Finset.univ fun c : Dev nD => bigSep Finset.univ fun k : Fin 15 => Φ (nx k c) k := by
  rw [← bigSep_univ_prod (fun p : Dev nD × Fin 15 => Φ p.1 p.2), bigSep_univ_equiv shear, bigSep_univ_prod]
  rfl

/-- The same of sums. -/
theorem deal_sum (f : Dev nD → Fin 15 → ℕ) : ∑ c, ∑ k, f (nx k c) k = ∑ c, ∑ k, f c k := by
  rw [← Fintype.sum_prod_type' (fun c k => f (nx k c) k), ← Fintype.sum_prod_type' f]
  exact Equiv.sum_comp shear fun p => f p.1 p.2

theorem kcell_injective : Function.Injective (kcell : Dev nD × Kind → GSem nD τ sig) := by
  rintro ⟨c, x⟩ ⟨c', x'⟩ h
  have h1 : c = c' := congrArg (fun g : GSem nD τ sig => g.1.1) h
  have h2 : csem x = csem x' := congrArg Prod.snd h
  have h3 : some x = some x' := by rw [← kindOf_csem x, ← kindOf_csem x', h2]
  rw [h1, Option.some.inj h3]

/-- All the exchange's cells. -/
def ringCells : Finset (GSem nD τ sig) := Finset.univ.map ⟨kcell, kcell_injective⟩

/-- Which cell of a device and which duty of it. -/
abbrev Duty : Type := Fin 15 ⊕ (Fin 15 ⊕ Fin 15)

/-- A device's own cells' duties: fifteen of its barrier, one of each send and receive cell. -/
def tokOf : Dev nD × Duty → GSem nD τ sig × ℕ × Fin 15
  | (c, .inl k) => (barCell c, 0, k)
  | (c, .inr x) => (kcell (c, .inr x), 0, 0)

theorem tokOf_injective : Function.Injective tokOf := by
  rintro ⟨c, x⟩ ⟨c', x'⟩ h
  have h1 : c = c' := by
    have := congrArg (fun g : GSem nD τ sig × ℕ × Fin 15 => g.1.1.1) h
    cases x <;> cases x' <;> exact this
  subst h1
  have hk : (tokOf (c, x)).1 = (tokOf (c, x')).1 := congrArg Prod.fst h
  have hd : (tokOf (c, x)).2.2 = (tokOf (c, x')).2.2 := congrArg (fun g => g.2.2) h
  rcases x with k | x <;> rcases x' with k' | x'
  · exact congrArg (fun k => (c, Sum.inl k)) hd
  · have := kcell_injective (a₁ := (c, .inl ())) (a₂ := (c, .inr x')) hk; cases this
  · have := kcell_injective (a₁ := (c, .inr x)) (a₂ := (c, .inl ())) hk; cases this
  · have := kcell_injective (a₁ := (c, .inr x)) (a₂ := (c, .inr x')) hk
    cases this; rfl

def ringToks : Finset (GSem nD τ sig × ℕ × Fin 15) := Finset.univ.map ⟨tokOf, tokOf_injective⟩

/-- What the launch starts the bookkeeping with. -/
def u₀ : UU := (initOf (Pipeline.cells cfgs cellOf_inj) (Pipeline.launchToks cfgs cellOf_inj), initOf ringCells ringToks)

/-- The duty tokens of device `c`'s own cells, -/
def toks (c : Dev nD) : sProp 𝕄 := bigSep Finset.univ fun x : Duty => dutyTok EX (tokOf (c, x)).1 (tokOf (c, x)).2.1 (tokOf (c, x)).2.2
/-- and those it pays with. -/
def payToks (c : Dev nD) : sProp 𝕄 :=
  iprop((bigSep Finset.univ fun k : Fin 15 => dutyTok EX (barCell (nx k c)) 0 k) ∗ sendToks c)

/-- Dealing the tokens round. -/
theorem toks_around : (bigSep Finset.univ fun c : Dev nD => (toks c : sProp 𝕄)) ⊢ bigSep Finset.univ fun c : Dev nD => payToks c := by
  have h (c : Dev nD) : (toks c : sProp 𝕄) = iprop((bigSep Finset.univ fun k : Fin 15 => dutyTok EX (barCell c) 0 k)
      ∗ (bigSep Finset.univ fun k : Fin 15 => dutyTok EX (sendCell c k) 0 0) ∗ bigSep Finset.univ fun k : Fin 15 => dutyTok EX (recvCell c k) 0 0) := by
    unfold toks; rw [BI.bigSep_univ_sum, BI.bigSep_univ_sum]; rfl
  rw [bigSep_congr fun c _ => h c]
  unfold payToks sendToks
  simp only [bigSep_sep']
  rw [deal (fun c k => dutyTok EX (barCell c) 0 k), deal (fun c k => dutyTok EX (recvCell c k) 0 0)]

/-! ## What the launch credits -/

/-- All that is owed a cell at launch. -/
theorem owed_total (g : GSem nD τ sig) :
    ∑ d : Dev nD, oweB d 0 g () = (∑ c : Dev nD, ∑ k : Fin 15, tallyAt (recvCell c k) () N g ()) + ∑ c : Dev nD, ∑ k : Fin 15, tallyAt (barCell c) () 1 g () := by
  rw [← deal_sum (fun c k => tallyAt (recvCell c k) () N g ()), ← deal_sum (fun c _ => tallyAt (barCell c) () 1 g ()), ← Finset.sum_add_distrib]
  refine Finset.sum_congr rfl fun d _ => ?_
  unfold oweB oweR
  rw [rest_zero, Pi.add_apply, Finsupp.add_apply, Finset.sum_apply, Finset.sum_apply, Finsupp.finset_sum_apply, Finsupp.finset_sum_apply]

theorem kcell_eq {a b : Dev nD × Kind} : Iff (kcell a = kcell b) (a = b) := kcell_injective.eq_iff

theorem launch_bar (c : Dev nD) :
    tallyOn (barCell c) (launchCredit (Pipeline.owing fun d => oweB d 0) 0 (barCell c)) = (tallyAt (barCell c) () 15 : CellTallies nD τ sig Unit) := by
  unfold tallyAt; refine congrArg _ (Finsupp.ext fun u => ?_); cases u
  rw [Pipeline.launchCredit_owing, Finsupp.single_eq_same, owed_total]
  have h1 (d : Dev nD) (k : Fin 15) : tallyAt (recvCell d k) () N (barCell c) () = 0 := by
    rw [tallyAt_apply, if_neg]
    rintro ⟨h, -⟩
    cases kcell_injective (a₁ := (c, .inl ())) (a₂ := (d, .inr (.inr k))) h
  have h2 (d : Dev nD) : tallyAt (barCell d) () 1 (barCell c) () = if d = c then 1 else 0 := by
    rw [tallyAt_apply]
    refine if_congr ⟨fun h => ?_, fun h => ⟨by rw [h], rfl⟩⟩ rfl rfl
    cases kcell_injective (a₁ := (c, .inl ())) (a₂ := (d, .inl ())) h.1; rfl
  simp only [h1, h2, Finset.sum_const_zero, Finset.sum_const, zero_add, Finset.card_univ, Fintype.card_fin, smul_eq_mul, mul_ite, mul_one, mul_zero]
  rw [Finset.sum_ite_eq' Finset.univ c, if_pos (Finset.mem_univ _)]

theorem launch_recv (c : Dev nD) (j : Fin 15) :
    tallyOn (recvCell c j) (launchCredit (Pipeline.owing fun d => oweB d 0) 0 (recvCell c j)) = (tallyAt (recvCell c j) () N : CellTallies nD τ sig Unit) := by
  unfold tallyAt; refine congrArg _ (Finsupp.ext fun u => ?_); cases u
  rw [Pipeline.launchCredit_owing, Finsupp.single_eq_same, owed_total]
  have h2 (d : Dev nD) : tallyAt (barCell d) () 1 (recvCell c j) () = 0 := by
    rw [tallyAt_apply, if_neg]
    rintro ⟨h, -⟩
    cases kcell_injective (a₁ := (c, .inr (.inr j))) (a₂ := (d, .inl ())) h
  have h1 (d : Dev nD) (k : Fin 15) : tallyAt (recvCell d k) () N (recvCell c j) () = if k = j then (if d = c then N else 0) else 0 := by
    rw [tallyAt_apply, ← ite_and]
    refine if_congr ⟨fun h => ?_, fun h => ⟨by rw [h.1, h.2], rfl⟩⟩ rfl rfl
    cases kcell_injective (a₁ := (c, .inr (.inr j))) (a₂ := (d, .inr (.inr k))) h.1; exact ⟨rfl, rfl⟩
  simp only [h1, h2, Finset.sum_const_zero, add_zero]
  rw [Finset.sum_congr rfl fun d _ => Finset.sum_ite_eq' Finset.univ j fun _ => if d = c then N else 0]
  simp only [Finset.mem_univ, if_true]
  rw [Finset.sum_ite_eq' Finset.univ c, if_pos (Finset.mem_univ _)]

/-- The receive semaphores. -/
def recvLocs : Finset (SemLoc sig) := Finset.univ.map ⟨fun k : Fin 15 => .dma (recvS k), fun a b h => by
  have ha := kindOf_recv a
  rw [show (SemLoc.dma (recvS a) : SemLoc sig) = _ from h, kindOf_recv b] at ha
  cases ha; rfl⟩

theorem bar_notMem : SemLoc.reg barS ∉ recvLocs := by
  intro h
  obtain ⟨k, -, hk⟩ := Finset.mem_map.mp h
  cases hk

/-- The launch's credits hold those the device waits with. -/
theorem creds (c : Dev nD) : (Pipeline.launchCred (fun d => oweB d 0) c : sProp 𝕄) ⊢ credits c := by
  unfold Pipeline.launchCred credits
  refine (BI.bigSep_subset (Finset.subset_univ (insert (SemLoc.reg barS) recvLocs))).trans ?_
  rw [BI.bigSep_insert bar_notMem, recvLocs, bigSep_map, launch_bar]
  exact Entails.of_eq (congrArg (fun P : sProp 𝕄 => iprop(cred (tallyAt (barCell c) () 15) ∗ P))
    (bigSep_congr fun k _ => congrArg cred (launch_recv c k)))

end Cert.SortProof

end
-- ==== Proof.Run.lean ====
/-
# The run of the whole program

Every device's semaphores become the exchange's cells; the devices run; every counter is zero again.
-/
module

public import proofs.«01_k».proof.Proof.Deal
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs

@[expose] public section

noncomputable section

namespace Cert.SortProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-- What the launch deals device `c`. -/
def dealt (c : Dev nD) : sProp 𝕄 :=
  iprop((bigSep Finset.univ fun x : Kind => roundState EX (ringRd (gAll m ρ)) (kcell (c, x)) 0)
    ∗ (bigSep Finset.univ fun x : Kind => iprop(atPos EX (kcell (c, x)) 0 ∅ 0 ∗ reached EX (kcell (c, x)) 0)) ∗ toks c)

theorem fund_ring : BI.own (EX (initOf ringCells ringToks)) ⊢ (|==> bigSep Finset.univ (dealt m ρ) : sProp 𝕄) := by
  have hX (Φ : GSem nD τ sig → sProp 𝕄) : bigSep ringCells Φ = bigSep Finset.univ fun c : Dev nD => bigSep Finset.univ fun x : Kind => Φ (kcell (c, x)) := by
    unfold ringCells; rw [bigSep_map, bigSep_univ_prod]; rfl
  have hT : bigSep ringToks (fun x => (dutyTok EX x.1 x.2.1 x.2.2 : sProp 𝕄)) = bigSep Finset.univ fun c : Dev nD => toks c := by
    unfold ringToks; rw [bigSep_map, bigSep_univ_prod]; rfl
  iintro HX
  imod (Rounds.fund EX (ringRd (gAll m ρ)) ringCells ringToks) $$ HX with ⟨Hst, Hr, Hat, Htok⟩
  imodintro
  ihave Hst := (Entails.of_eq (hX fun g => roundState EX (ringRd (gAll m ρ)) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold dealt; simp only [bigSep_sep']
  isplitl [Hst]; · iexact Hst
  isplitl [Hat Hr]
  · isplitl [Hat] <;> iassumption
  iexact Htok

/-- The kernel's own semaphores are the sends' and the receives'; -/
theorem ownSems0_eq (c : Dev nD) : (Pipeline.ownSems0 (Ix := Unit) (Name := ℕ) (U := UU) (Lvl := ℕ) (Val := Elt F) (τ := τ) osem c : sProp 𝕄)
    = iprop(sendZero c ∗ recvZero c) := by
  unfold Pipeline.ownSems0; rw [BI.bigSep_univ_sum]; rfl
/-- the barrier's is the one other. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over a device's cells, kind by kind. -/
theorem kinds (Φ : Kind → sProp 𝕄) : bigSep Finset.univ Φ = iprop(Φ (.inl ())
    ∗ (bigSep Finset.univ fun k : Fin 15 => Φ (.inr (.inl k))) ∗ bigSep Finset.univ fun k : Fin 15 => Φ (.inr (.inr k))) := by
  rw [BI.bigSep_univ_sum, BI.bigSep_univ_sum, Finset.univ_unique, bigSep_singleton]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : Kind => semVal (kcell (c, x)) 0 : sProp 𝕄) := by
  rw [ownSems0_eq, unscopedSems0_eq, kinds]
  iintro ⟨⟨HS, HV⟩, HB⟩
  isplitl [HB]; · iexact HB
  isplitl [HS]; · iexact HS
  iexact HV

/-- One device's cells are set up. -/
theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun x : Kind => iprop(∃ κ : ℕ, cellInv EX (ringRd (gAll m ρ)) κ (kcell (c, x))))
          ∗ (bigSep Finset.univ fun x : Kind => iprop(atPos EX (kcell (c, x)) 0 ∅ 0 ∗ reached EX (kcell (c, x)) 0)) ∗ toks c) := by
  unfold dealt
  iintro ⟨Hos, Hus, Hst, Hat, Htok⟩
  ihave Hv := (sems0_eq (F := F) c) $$ [Hos Hus]
  · isplitl [Hos] <;> iassumption
  imod (show iprop((bigSep Finset.univ fun x : Kind => semVal (kcell (c, x)) 0) ∗ bigSep Finset.univ fun x : Kind => roundState EX (ringRd (gAll m ρ)) (kcell (c, x)) 0)
      ⊢ (|={Set.univ}=> bigSep Finset.univ fun x : Kind => iprop(∃ κ : ℕ, cellInv EX (ringRd (gAll m ρ)) κ (kcell (c, x))) : sProp 𝕄) from by
        rw [← bigSep_sep']
        exact (bigSep_mono fun x _ => (Rounds.body_intro EX (ringRd (gAll m ρ)) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- A device's positions and the tokens it pays with. -/
def linear (c : Dev nD) : sProp 𝕄 := iprop((bigSep Finset.univ fun x : Kind => atPos EX (kcell (c, x)) 0 ∅ 0) ∗ payToks c)

theorem ghost_intro (K : Dev nD × Kind → ℕ) (c : Dev nD) : iprop(records (gAll m ρ) K ∗ linear c) ⊢ iprop(∃ K, ghost (gAll m ρ) K c) := by
  unfold linear payToks ghost
  rw [kinds]
  iintro ⟨#HR, ⟨HaB, HaS, HaV⟩, HtB, Ht⟩
  iexists K
  isplitr; · iexact HR
  isplitl [HtB]; · iexact HtB
  isplitl [Ht]; · iexact Ht
  isplitl [HaB]; · iexact HaB
  isplitl [HaS]; · iexact HaS
  iexact HaV

theorem bigSep_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' cells set up: every device knows them all. -/
theorem regroup :
    (bigSep Finset.univ fun c : Dev nD => iprop((bigSep Finset.univ fun x : Kind => iprop(∃ κ : ℕ, cellInv EX (ringRd (gAll m ρ)) κ (kcell (c, x))))
          ∗ (bigSep Finset.univ fun x : Kind => iprop(atPos EX (kcell (c, x)) 0 ∅ 0 ∗ reached EX (kcell (c, x)) 0)) ∗ toks c) : sProp 𝕄)
      ⊢ bigSep Finset.univ fun c => iprop(∃ K, ghost (gAll m ρ) K c) := by
  simp only [bigSep_sep']
  rw [← bigSep_univ_prod (fun ck : Dev nD × Kind => iprop(∃ κ : ℕ, cellInv EX (ringRd (gAll m ρ)) κ (kcell ck))),
    ← bigSep_univ_prod (fun ck : Dev nD × Kind => (reached EX (kcell ck) 0 : sProp 𝕄))]
  iintro ⟨HI, ⟨Hat, #HR⟩, Htok⟩
  ihave HK := (BI.bigSep_exists_pi Finset.univ (fun (ck : Dev nD × Kind) (κ : ℕ) => (cellInv EX (ringRd (gAll m ρ)) κ (kcell ck) : sProp 𝕄))) $$ HI
  icases HK with ⟨%K, #HI⟩
  ihave Htk := (toks_around (F := F)) $$ Htok
  iapply (bigSep_persistent (R := records (gAll m ρ) K) fun c _ => ghost_intro m ρ K c)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ fun c => iprop(∃ K, ghost (gAll m ρ) K c) :=
  ((bigSep_mono fun c _ => core_alloc m ρ c).trans (bigSep_fupd _ _)).trans (BI.fupd_mono (regroup m ρ))

/-! ## Entering and leaving the pass -/

theorem start_intro (c : Dev nD) :
    iprop(Pipeline.unscopedRestP Pipeline.Prefetch.none cfg0.spec c (fun b => m ((c : Thread nD τ).loc b)) ∗ levAts L lv
        ∗ Pipeline.launchCred (fun d => oweB d 0) c ∗ prngReg c (ρ c) ∗ ∃ K, ghost (gAll m ρ) K c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scopedRest0_eq]
  unfold scratch
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(zeros c ∗ scratch c) from rfl, scopedRest0_eq, ownSems0_eq, unscopedSems0_eq]
  unfold zeros scratch
  iintro ⟨⟨HzS, HzR, HzB⟩, Hr⟩
  isplitl [HzB]; · iexact HzB
  isplitl [HzS HzR]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem ownSemFacts : Pipeline.OwnSemFacts cfg0.spec osem := by decide

theorem share_eq (c : Dev nD) (w : Fin cfg0.W) : (dats m ρ 0 c).share w = fullShare := by unfold Dat.share; split <;> rfl

/-! ## The run -/

/-- What device `c`'s arrays hold at the end. -/
def finalA (c : Dev nD) (w : Fin cfg0.W) : Buf (Elt F) ((cfg0.win w).arr.view.loc (c : Thread nD τ)) := (dats m ρ 0 c).arrAt w cfg0.N

set_option maxRecDepth 8000 in
/-- From any memory with every counter at zero, every fair execution ends, each device's arrays as computed and every counter at
    zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => oweB d 0) (howed₀ := fun _ => rfl) (howedN := fun _ => rfl)
    (L := L) (lv := lv) (hL := L_of_ne) (hwaits := waits m ρ)
    (G := dealt m ρ) (G' := fun c => iprop(∃ K, ghost (gAll m ρ) K c)) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array is left as it was. -/
theorem finalA_in (c : Dev nD) : finalA m ρ c (0 : Fin 2) = (s₀ m ρ).mem (win0_0.arr.view.loc (c : Thread nD τ)) :=
  (dats (F := F) m ρ 0 c).arrAt_in (0 : Fin 2) rfl _

end Cert.SortProof

end
-- ==== Proof.Results.lean ====
/-
# What the two arrays hold at the end

The argument array is one window of one block, the result array too: the block is the whole array.
-/
module

public import proofs.«01_k».proof.Proof.Run

@[expose] public section

noncomputable section

namespace Cert.SortProof

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The block a device stages is its whole argument array. -/
theorem xstg_eq (c : Dev nD) : xstg c m ρ = m ((c : Thread nD τ).loc main_arg0) :=
  Memref.read_access_unit_zero (Elt F) main_arg0 (funext fun a => by fin_cases a <;> decide)
    (fun a => by fin_cases a <;> decide) _

/-- The result array ends holding what the body left in its staging buffer. -/
theorem finalA_out (c : Dev nD) : finalA m ρ c (1 : Fin 2) = outAt c m ρ := by
  have hr : ∀ f : main_v1.ty.Contents (Elt F), (win0_1.blk (0 : Fin 1)).view.read (Elt F) f = f := fun f =>
    Memref.read_access_unit_zero (Elt F) main_v1 (funext fun a => by fin_cases a <;> decide)
      (fun a => by fin_cases a <;> decide) f
  refine (hr _).symm.trans ?_
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- The run over both arrays: the argument keeps its contents, the result is the closing pass's value, and every
    counter is zero. -/
theorem run_arrays : θ_run defs (onTc (τ := τ) (main (F := F))) ⟨m, fun _ => 0, ρ⟩ (fun r =>
    (∀ c : Dev nD, r.2.mem ((c : Thread nD τ).loc main_v1) = outAt c m ρ
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (finalA_out m ρ c),
    (h.1 c (0 : Fin 2)).trans (finalA_in m ρ c)⟩, h.2⟩) (run_main m ρ)

end Cert.SortProof

end
-- ==== Proof.Frames.lean ====
/-
# The frames

The kernel printed over machine floats and over the reals is one text, so one run gives both frames.
-/
module

public import proofs.«01_k».proof.Defs
public import proofs.«01_k».proof.Proof.Results
public import proofs.«01_k».proof.Proof.Gen.Kernel
public import proofs.«01_k».proof.Proof.Gen.ReferenceIdeal.Run

@[expose] public section

noncomputable section

namespace Cert.SortProof

open Idealize.ShloMosaic Idealize.SL.Sem

/-- The two printed body tables hold one body. -/
theorem bodies_eq : Cert.Kernel.defs₀ (F := Bits) = Cert.KernelIdeal.defs₀ (F := Bits) := by
  unfold Cert.Kernel.defs₀ Cert.KernelIdeal.defs₀
  congr 1
  funext l x
  match l, x with
  | (0 : Fin 1), (t, k) => rfl

/-- The two printed programs' tables are one. -/
theorem tables_eq : Cert.Kernel.defs (F := Bits) = Cert.KernelIdeal.defs (F := Bits) :=
  congrArg (Pipeline.defs (Cert.KernelIdeal.pcfgs (F := Bits))) bodies_eq

/-- On machine floats the kernel ends, its argument unchanged, every counter zero. -/
theorem frame_kernel : Cert.quiescent_Kernel := by
  intro m ρ _
  rw [tables_eq]
  exact (θ_run Cert.KernelIdeal.defs _ _).mono (fun _ h => ⟨fun c => (h.1 c).2, h.2⟩) (run_arrays (F := Bits) m ρ)

/-- Over the reals the kernel ends, its argument unchanged, every counter zero. -/
theorem frame_kernelIdeal : Cert.quiescent_KernelIdeal := fun m ρ _ =>
  (θ_run Cert.KernelIdeal.defs _ _).mono (fun _ h => ⟨fun c => (h.1 c).2, h.2⟩) (run_arrays (F := Ideal) m ρ)

/-- The reference ends, its argument unchanged; it has no counter. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.SortProof

end
-- ==== Proof.Stages.lean ====
/-
# The stages of the sort as array operations

A stage of the sort compares each entry of an array with the entry some distance away in the same column and keeps the
lesser or the greater of the two. The kernel writes a stage in three ways, each stated once here: by rotating the rows
(short distances), by regrouping the rows into pairs of runs (long distances), and by rotating the lanes (the distance
between the two halves of the packed array).
-/
module

public import proofs.«01_k».proof.Proof.Chain

@[expose] public section

noncomputable section

namespace Cert.SortProof

open Cert.KernelIdeal Cert.KernelIdeal.Gen
open Idealize.ShloMosaic

variable {F : FTy → Type} [FloatOps F]

/-! ## By rotating rows -/

section Roll
variable {N C : Nat}

/-- A stage by rotation: each entry's partner is read from the array rotated up (where `first` holds) or down, and the
    lesser of the two is kept where `low` holds, the greater elsewhere. -/
def rollStage (h : (⟨2, ![N, C]⟩ : Shape).Rotates 0 none) (first low : IVec ⟨2, ![N, C]⟩ 1) (up down : BitVec 32)
    (v : FVec F ⟨2, ![N, C]⟩ .bf16) : FVec F ⟨2, ![N, C]⟩ .bf16 :=
  select low (minimumf v (select first (dynamicRotate 0 up none v h) (dynamicRotate 0 down none v h)))
    (maximumf v (select first (dynamicRotate 0 up none v h) (dynamicRotate 0 down none v h)))

end Roll

/-- The rows of a block whose bit `j` is clear. -/
def rowFirst (j : BitVec 32) : IVec S128x1 1 :=
  cmpi .eq (andi rows128 (broadcast S128x1 j)) (broadcast S128x1 0#32)
/-- The rows of a block whose bit `k` is set. -/
def rowDesc (k : BitVec 32) : IVec S128x1 1 :=
  cmpi .ne (andi rows128 (broadcast S128x1 k)) (broadcast S128x1 0#32)
/-- The same with every row's answer exchanged when `o` is set. -/
def rowDescFlip (k : BitVec 32) (o : BitVec 1) : IVec S128x1 1 := xori (rowDesc k) (broadcast S128x1 o)
/-- A choice per row, made for all lanes. -/
def across (b : IVec S128x1 1) : IVec S128x64 1 :=
  broadcastTo S128x64 (shapeCast S128x1 b shapeCasts_S128x1_S128x1) broadcasts_S128x1_S128x64
/-- A rotating stage of one block at distance `j`, descending where `desc` holds. -/
def blockRoll (j up : BitVec 32) (desc : IVec S128x1 1) (v : FVec F S128x64 .bf16) : FVec F S128x64 .bf16 :=
  rollStage rotates_S128x64_d0 (across (rowFirst j)) (across (xori (rowFirst j) desc)) up j v

/-- The position of an entry of the packed array in its column of 2048: the row, and 1024 more in the upper lanes. -/
def position : IVec S1024x128 32 :=
  addi (broadcastTo S1024x128 rows1024 broadcasts_S1024x1_S1024x128)
    (broadcastTo S1024x128 (select (cmpi .sge lanes128 (broadcast S1x128 64#32)) (broadcast S1x128 1024#32) (broadcast S1x128 0#32))
      broadcasts_S1x128_S1024x128)
/-- The positions whose bit `j` is clear. -/
def posFirst (j : BitVec 32) : IVec S1024x128 1 :=
  cmpi .eq (andi position (broadcast S1024x128 j)) (broadcast S1024x128 0#32)
/-- The positions whose bit `k` is set. -/
def posDesc (k : BitVec 32) : IVec S1024x128 1 :=
  cmpi .ne (andi position (broadcast S1024x128 k)) (broadcast S1024x128 0#32)
/-- A rotating stage of the packed array at distance `j`, descending where bit `k` of the position is set. -/
def packRoll (j up k : BitVec 32) (v : FVec F S1024x128 .bf16) : FVec F S1024x128 .bf16 :=
  rollStage rotates_S1024x128_d0 (posFirst j) (xori (posFirst j) (posDesc k)) up j v

/-! ## By regrouping rows -/

/-- The shapes of a regrouping of `N` rows into `G` pairs of runs of `M` rows fit together. -/
structure Fits (N C G M : Nat) : Prop where
  split : (⟨2, ![N, C]⟩ : Shape).ShapeCasts ⟨4, ![G, 2, M, C]⟩
  low : (⟨4, ![G, 2, M, C]⟩ : Shape).Slices ![0, 0, 0, 0] ⟨4, ![G, 1, M, C]⟩
  high : (⟨4, ![G, 2, M, C]⟩ : Shape).Slices ![0, 1, 0, 0] ⟨4, ![G, 1, M, C]⟩
  drop : (⟨4, ![G, 1, M, C]⟩ : Shape).ShapeCasts ⟨3, ![G, M, C]⟩
  add : (⟨3, ![G, M, C]⟩ : Shape).ShapeCasts ⟨4, ![G, 1, M, C]⟩
  join : Shape.Concatenates [⟨4, ![G, 1, M, C]⟩, ⟨4, ![G, 1, M, C]⟩] ⟨4, ![G, 2, M, C]⟩ 1
  back : (⟨4, ![G, 2, M, C]⟩ : Shape).ShapeCasts ⟨2, ![N, C]⟩

section Fold
variable {N C G M : Nat}

/-- The first run of every pair. -/
def lows (h : Fits N C G M) (v : FVec F ⟨2, ![N, C]⟩ .bf16) : FVec F ⟨3, ![G, M, C]⟩ .bf16 :=
  shapeCast ⟨3, ![G, M, C]⟩ (extractStridedSlice ⟨4, ![G, 1, M, C]⟩ ![0, 0, 0, 0] (shapeCast ⟨4, ![G, 2, M, C]⟩ v h.split) h.low) h.drop
/-- The second run of every pair. -/
def highs (h : Fits N C G M) (v : FVec F ⟨2, ![N, C]⟩ .bf16) : FVec F ⟨3, ![G, M, C]⟩ .bf16 :=
  shapeCast ⟨3, ![G, M, C]⟩ (extractStridedSlice ⟨4, ![G, 1, M, C]⟩ ![0, 1, 0, 0] (shapeCast ⟨4, ![G, 2, M, C]⟩ v h.split) h.high) h.drop
/-- The rows in order again, from the first runs and the second runs. -/
def rejoin (h : Fits N C G M) (a b : FVec F ⟨3, ![G, M, C]⟩ .bf16) : FVec F ⟨2, ![N, C]⟩ .bf16 :=
  shapeCast ⟨2, ![N, C]⟩
    (concatenate ⟨4, ![G, 2, M, C]⟩ 1 [⟨⟨4, ![G, 1, M, C]⟩, shapeCast ⟨4, ![G, 1, M, C]⟩ a h.add⟩,
      ⟨⟨4, ![G, 1, M, C]⟩, shapeCast ⟨4, ![G, 1, M, C]⟩ b h.add⟩] h.join) h.back
/-- A stage by regrouping: the lesser entries go to the first runs and the greater to the second, the other way round where
    `desc` holds. -/
def foldStage (h : Fits N C G M) (desc : IVec ⟨3, ![G, M, C]⟩ 1) (v : FVec F ⟨2, ![N, C]⟩ .bf16) : FVec F ⟨2, ![N, C]⟩ .bf16 :=
  rejoin h (select desc (maximumf (lows h v) (highs h v)) (minimumf (lows h v) (highs h v)))
    (select desc (minimumf (lows h v) (highs h v)) (maximumf (lows h v) (highs h v)))

end Fold

/-- The shapes of a choice made once for each of `G` groups fit together. -/
structure Spreads (G M C : Nat) : Prop where
  count : (⟨3, ![G, 1, 1]⟩ : Shape).Iotas .tc 32 [0]
  same : (⟨3, ![G, 1, 1]⟩ : Shape).ShapeCasts ⟨3, ![G, 1, 1]⟩
  wide : (⟨3, ![G, 1, 1]⟩ : Shape).Broadcasts ⟨3, ![G, M, C]⟩

section Groups
variable {G M C : Nat}

/-- The groups of `w` rows whose first row has bit `k` set. -/
def groupDesc (h : Spreads G M C) (w k : BitVec 32) : IVec ⟨3, ![G, 1, 1]⟩ 1 :=
  cmpi .ne (andi (muli (iota .tc ⟨3, ![G, 1, 1]⟩ 32 [0] h.count) (broadcast ⟨3, ![G, 1, 1]⟩ w)) (broadcast ⟨3, ![G, 1, 1]⟩ k))
    (broadcast ⟨3, ![G, 1, 1]⟩ 0#32)
/-- The same with every group's answer exchanged when `o` is set. -/
def groupDescFlip (h : Spreads G M C) (w k : BitVec 32) (o : BitVec 1) : IVec ⟨3, ![G, 1, 1]⟩ 1 :=
  xori (groupDesc h w k) (broadcast ⟨3, ![G, 1, 1]⟩ o)
/-- A choice per group, made for all its entries. -/
def spread (h : Spreads G M C) (b : IVec ⟨3, ![G, 1, 1]⟩ 1) : IVec ⟨3, ![G, M, C]⟩ 1 :=
  broadcastTo ⟨3, ![G, M, C]⟩ (shapeCast ⟨3, ![G, 1, 1]⟩ b h.same) h.wide

end Groups

/-- The upper 64 lanes. -/
def upperLanes : IVec S1x1x128 1 := cmpi .sge lanes3 (broadcast S1x1x128 64#32)
/-- The choice of the upper lanes, made for all rows. -/
def spreadLanes {G M : Nat} (h : S1x1x128.Broadcasts ⟨3, ![G, M, 128]⟩) : IVec ⟨3, ![G, M, 128]⟩ 1 :=
  broadcastTo ⟨3, ![G, M, 128]⟩ (shapeCast S1x1x128 upperLanes shapeCasts_S1x1x128_S1x1x128) h

/-! ## By rotating lanes -/

/-- The stage between the two halves of the packed array: the lower lanes keep the lesser entries. -/
def laneStage (v : FVec F S1024x128 .bf16) : FVec F S1024x128 .bf16 :=
  select (broadcastTo S1024x128 (shapeCast S1x128 (cmpi .slt lanes128 (broadcast S1x128 64#32)) shapeCasts_S1x128_S1x128) broadcasts_S1x128_S1024x128)
    (minimumf v (dynamicRotate 1 64#32 none v rotates_S1024x128_d1)) (maximumf v (dynamicRotate 1 64#32 none v rotates_S1024x128_d1))

/-! ## The sizes at which the kernel regroups -/

theorem fits64_1 : Fits 128 64 1 64 := ⟨shapeCasts_S128x64_S1x2x64x64, slices_S1x2x64x64_o0_0_0_0_S1x1x64x64, slices_S1x2x64x64_o0_1_0_0_S1x1x64x64,
  shapeCasts_S1x1x64x64_S1x64x64, shapeCasts_S1x64x64_S1x1x64x64, concatenates_S1x1x64x64_S1x1x64x64_S1x2x64x64_d1, shapeCasts_S1x2x64x64_S128x64⟩
theorem fits64_2 : Fits 128 64 2 32 := ⟨shapeCasts_S128x64_S2x2x32x64, slices_S2x2x32x64_o0_0_0_0_S2x1x32x64, slices_S2x2x32x64_o0_1_0_0_S2x1x32x64,
  shapeCasts_S2x1x32x64_S2x32x64, shapeCasts_S2x32x64_S2x1x32x64, concatenates_S2x1x32x64_S2x1x32x64_S2x2x32x64_d1, shapeCasts_S2x2x32x64_S128x64⟩
theorem fits64_4 : Fits 128 64 4 16 := ⟨shapeCasts_S128x64_S4x2x16x64, slices_S4x2x16x64_o0_0_0_0_S4x1x16x64, slices_S4x2x16x64_o0_1_0_0_S4x1x16x64,
  shapeCasts_S4x1x16x64_S4x16x64, shapeCasts_S4x16x64_S4x1x16x64, concatenates_S4x1x16x64_S4x1x16x64_S4x2x16x64_d1, shapeCasts_S4x2x16x64_S128x64⟩
theorem fits128_1 : Fits 1024 128 1 512 := ⟨shapeCasts_S1024x128_S1x2x512x128, slices_S1x2x512x128_o0_0_0_0_S1x1x512x128, slices_S1x2x512x128_o0_1_0_0_S1x1x512x128,
  shapeCasts_S1x1x512x128_S1x512x128, shapeCasts_S1x512x128_S1x1x512x128, concatenates_S1x1x512x128_S1x1x512x128_S1x2x512x128_d1, shapeCasts_S1x2x512x128_S1024x128⟩
theorem fits128_2 : Fits 1024 128 2 256 := ⟨shapeCasts_S1024x128_S2x2x256x128, slices_S2x2x256x128_o0_0_0_0_S2x1x256x128, slices_S2x2x256x128_o0_1_0_0_S2x1x256x128,
  shapeCasts_S2x1x256x128_S2x256x128, shapeCasts_S2x256x128_S2x1x256x128, concatenates_S2x1x256x128_S2x1x256x128_S2x2x256x128_d1, shapeCasts_S2x2x256x128_S1024x128⟩
theorem fits128_4 : Fits 1024 128 4 128 := ⟨shapeCasts_S1024x128_S4x2x128x128, slices_S4x2x128x128_o0_0_0_0_S4x1x128x128, slices_S4x2x128x128_o0_1_0_0_S4x1x128x128,
  shapeCasts_S4x1x128x128_S4x128x128, shapeCasts_S4x128x128_S4x1x128x128, concatenates_S4x1x128x128_S4x1x128x128_S4x2x128x128_d1, shapeCasts_S4x2x128x128_S1024x128⟩
theorem fits128_8 : Fits 1024 128 8 64 := ⟨shapeCasts_S1024x128_S8x2x64x128, slices_S8x2x64x128_o0_0_0_0_S8x1x64x128, slices_S8x2x64x128_o0_1_0_0_S8x1x64x128,
  shapeCasts_S8x1x64x128_S8x64x128, shapeCasts_S8x64x128_S8x1x64x128, concatenates_S8x1x64x128_S8x1x64x128_S8x2x64x128_d1, shapeCasts_S8x2x64x128_S1024x128⟩
theorem fits128_16 : Fits 1024 128 16 32 := ⟨shapeCasts_S1024x128_S16x2x32x128, slices_S16x2x32x128_o0_0_0_0_S16x1x32x128, slices_S16x2x32x128_o0_1_0_0_S16x1x32x128,
  shapeCasts_S16x1x32x128_S16x32x128, shapeCasts_S16x32x128_S16x1x32x128, concatenates_S16x1x32x128_S16x1x32x128_S16x2x32x128_d1, shapeCasts_S16x2x32x128_S1024x128⟩
theorem fits128_32 : Fits 1024 128 32 16 := ⟨shapeCasts_S1024x128_S32x2x16x128, slices_S32x2x16x128_o0_0_0_0_S32x1x16x128, slices_S32x2x16x128_o0_1_0_0_S32x1x16x128,
  shapeCasts_S32x1x16x128_S32x16x128, shapeCasts_S32x16x128_S32x1x16x128, concatenates_S32x1x16x128_S32x1x16x128_S32x2x16x128_d1, shapeCasts_S32x2x16x128_S1024x128⟩

theorem spreads64_1 : Spreads 1 64 64 := ⟨iota_S1x1x1_d0_w32, shapeCasts_S1x1x1_S1x1x1, broadcasts_S1x1x1_S1x64x64⟩
theorem spreads64_2 : Spreads 2 32 64 := ⟨iota_S2x1x1_d0_w32, shapeCasts_S2x1x1_S2x1x1, broadcasts_S2x1x1_S2x32x64⟩
theorem spreads64_4 : Spreads 4 16 64 := ⟨iota_S4x1x1_d0_w32, shapeCasts_S4x1x1_S4x1x1, broadcasts_S4x1x1_S4x16x64⟩
theorem spreads128_1 : Spreads 1 512 128 := ⟨iota_S1x1x1_d0_w32, shapeCasts_S1x1x1_S1x1x1, broadcasts_S1x1x1_S1x512x128⟩
theorem spreads128_2 : Spreads 2 256 128 := ⟨iota_S2x1x1_d0_w32, shapeCasts_S2x1x1_S2x1x1, broadcasts_S2x1x1_S2x256x128⟩
theorem spreads128_4 : Spreads 4 128 128 := ⟨iota_S4x1x1_d0_w32, shapeCasts_S4x1x1_S4x1x1, broadcasts_S4x1x1_S4x128x128⟩
theorem spreads128_8 : Spreads 8 64 128 := ⟨iota_S8x1x1_d0_w32, shapeCasts_S8x1x1_S8x1x1, broadcasts_S8x1x1_S8x64x128⟩
theorem spreads128_16 : Spreads 16 32 128 := ⟨iota_S16x1x1_d0_w32, shapeCasts_S16x1x1_S16x1x1, broadcasts_S16x1x1_S16x32x128⟩
theorem spreads128_32 : Spreads 32 16 128 := ⟨iota_S32x1x1_d0_w32, shapeCasts_S32x1x1_S32x1x1, broadcasts_S32x1x1_S32x16x128⟩

end Cert.SortProof
-- ==== Proof.Masks.lean ====
/-
# The masks of the stages, entry by entry

Every mask the stages choose by is made of row numbers and lane numbers: at each entry it says whether one bit of the entry's
position is clear or set.
-/
module

public import proofs.«01_k».proof.Proof.Stages
public import Idealize.ShloMosaic.Lib.ValueIdxCore
public import Idealize.ShloMosaic.Lib.WordCmp
public import Idealize.ShloMosaic.Lib.Pipeline.Value
public import Idealize.ShloMosaic.Lib.KernelVsHost
public import Mathlib.Data.Nat.Bitwise

@[expose] public section

noncomputable section

namespace Cert.SortProof

open Cert.KernelIdeal Cert.KernelIdeal.Gen
open Idealize.ShloMosaic Idealize.ShloMosaic.ValueIdx Idealize.ShloMosaic.WordCmp

/-- The exclusive or of two answers. -/
theorem ofBool_xori (a b : Bool) : IntOp.xori (BitVec.ofBool a) (BitVec.ofBool b) = BitVec.ofBool (a ^^ b) := by
  cases a <;> cases b <;> rfl

section Words
variable {k : BitVec 32} {t : Nat} (hk : k.toNat = 2 ^ t)
include hk

/-- A word's bit tested for being set, -/
theorem word_ne (x : BitVec 32) : IntOp.cmpi .ne (IntOp.andi x k) 0#32 = BitVec.ofBool (x.toNat.testBit t) := by
  rw [cmpi_ne_eq_toNat, show (IntOp.andi x k).toNat = x.toNat &&& k.toNat from BitVec.toNat_and x k, hk, Nat.and_two_pow]
  cases x.toNat.testBit t <;> simp
/-- and for being clear. -/
theorem word_eq (x : BitVec 32) : IntOp.cmpi .eq (IntOp.andi x k) 0#32 = BitVec.ofBool (!x.toNat.testBit t) := by
  rw [cmpi_eq_eq_toNat, show (IntOp.andi x k).toNat = x.toNat &&& k.toNat from BitVec.toNat_and x k, hk, Nat.and_two_pow]
  cases x.toNat.testBit t <;> simp

/-! ## Rows of a block -/

theorem rowFirst_apply (r : Fin 128) (z : Fin 1) : rowFirst k (ix2 r z) = BitVec.ofBool (!r.val.testBit t) := by
  show IntOp.cmpi .eq (IntOp.andi (rows128 (ix2 r z)) k) 0#32 = _
  rw [word_eq hk, show rows128 (ix2 r z) = BitVec.ofNat 32 r.val from iota_single_apply .., toNat_ofNat_of_lt (by have := r.isLt; omega)]
theorem rowDesc_apply (r : Fin 128) (z : Fin 1) : rowDesc k (ix2 r z) = BitVec.ofBool (r.val.testBit t) := by
  show IntOp.cmpi .ne (IntOp.andi (rows128 (ix2 r z)) k) 0#32 = _
  rw [word_ne hk, show rows128 (ix2 r z) = BitVec.ofNat 32 r.val from iota_single_apply .., toNat_ofNat_of_lt (by have := r.isLt; omega)]
theorem rowDescFlip_apply (b : Bool) (r : Fin 128) (z : Fin 1) :
    rowDescFlip k (BitVec.ofBool b) (ix2 r z) = BitVec.ofBool (r.val.testBit t ^^ b) := by
  show IntOp.xori (rowDesc k (ix2 r z)) (BitVec.ofBool b) = _
  rw [rowDesc_apply hk, ofBool_xori]

end Words

/-- A choice per row reads the same in every lane. -/
theorem across_apply (b : IVec S128x1 1) (r : Fin 128) (c : Fin 64) : across b (ix2 r c) = b (ix2 r 0) := by
  unfold across
  rw [shapeCast_self]
  refine broadcastTo_apply b _ (ix2 r c) (ix2 r 0) fun a => ?_
  match a with
  | ⟨0, _⟩ => rfl
  | ⟨1, _⟩ => rfl

/-! ## Positions of the packed array -/

/-- The position of row `r`, lane `q`: `r`, and 1024 more from lane 64 on. -/
theorem position_apply (r : Fin 1024) (q : Fin 128) : (position (ix2 r q)).toNat = 1024 * (q.val / 64) + r.val := by
  have e1 : broadcastTo S1024x128 rows1024 broadcasts_S1024x1_S1024x128 (ix2 r q) = BitVec.ofNat 32 r.val := by
    refine (broadcastTo_apply rows1024 _ (ix2 r q) (ix2 r 0) fun a => ?_).trans (iota_single_apply ..)
    match a with
    | ⟨0, _⟩ => rfl
    | ⟨1, _⟩ => rfl
  have e2 : broadcastTo S1024x128 (select (cmpi .sge lanes128 (broadcast S1x128 64#32)) (broadcast S1x128 1024#32) (broadcast S1x128 0#32))
      broadcasts_S1x128_S1024x128 (ix2 r q) = BitVec.ofNat 32 (1024 * (q.val / 64)) := by
    refine (broadcastTo_apply _ _ (ix2 r q) (ix2 0 q) fun a => ?_).trans ?_
    · match a with
      | ⟨0, _⟩ => rfl
      | ⟨1, _⟩ => rfl
    · show Scalar.select (IntOp.cmpi .sge (lanes128 (ix2 0 q)) 64#32) 1024#32 0#32 = _
      rw [show lanes128 (ix2 0 q) = BitVec.ofNat 32 q.val from iota_single_apply .., cmpi_sge_ofNat (by have := q.isLt; omega) (by norm_num)]
      by_cases hq : 64 ≤ q.val
      · rw [show q.val / 64 = 1 by have := q.isLt; omega, decide_eq_true hq]; rfl
      · rw [show q.val / 64 = 0 by omega, decide_eq_false hq]; rfl
  show (IntOp.addi (broadcastTo S1024x128 rows1024 _ (ix2 r q)) (broadcastTo S1024x128 _ _ (ix2 r q))).toNat = _
  rw [e1, e2]
  show (BitVec.ofNat 32 r.val + BitVec.ofNat 32 (1024 * (q.val / 64))).toNat = _
  have := r.isLt
  have := q.isLt
  rw [BitVec.toNat_add, toNat_ofNat_of_lt (by omega), toNat_ofNat_of_lt (by omega), Nat.mod_eq_of_lt (by omega), Nat.add_comm]

section Words
variable {k : BitVec 32} {t : Nat} (hk : k.toNat = 2 ^ t)
include hk

theorem posFirst_apply (r : Fin 1024) (q : Fin 128) : posFirst k (ix2 r q) = BitVec.ofBool (!(1024 * (q.val / 64) + r.val).testBit t) := by
  rw [← position_apply]
  exact word_eq hk _
theorem posDesc_apply (r : Fin 1024) (q : Fin 128) : posDesc k (ix2 r q) = BitVec.ofBool ((1024 * (q.val / 64) + r.val).testBit t) := by
  rw [← position_apply]
  exact word_ne hk _

/-! ## Groups of rows -/

theorem groupDesc_apply {G M C : Nat} (h : Spreads G M C) (w : BitVec 32) (g : Fin G) (hg : G * w.toNat < 2 ^ 32) :
    groupDesc h w k (ix3 g 0 0) = BitVec.ofBool ((g.val * w.toNat).testBit t) := by
  show IntOp.cmpi .ne (IntOp.andi (IntOp.muli (iota .tc ⟨3, ![G, 1, 1]⟩ 32 [0] h.count (ix3 g 0 0)) w) k) 0#32 = _
  rw [word_ne hk, iota_single_apply]
  show BitVec.ofBool ((BitVec.ofNat 32 g.val * w).toNat.testBit t) = _
  have h1 : g.val * w.toNat < 2 ^ 32 := lt_of_le_of_lt (Nat.mul_le_mul_right _ g.isLt.le) hg
  rw [BitVec.toNat_mul, BitVec.toNat_ofNat, Nat.mod_mul_mod, Nat.mod_eq_of_lt h1]

end Words

/-- A choice per group reads the same at all its entries. -/
theorem spread_apply {G M C : Nat} (h : Spreads G M C) (b : IVec ⟨3, ![G, 1, 1]⟩ 1) (g : Fin G) (m : Fin M) (c : Fin C) :
    spread h b (ix3 g m c) = b (ix3 g 0 0) := by
  unfold spread
  rw [shapeCast_self]
  refine broadcastTo_apply b _ (ix3 g m c) (ix3 g 0 0) fun a => ?_
  match a with
  | ⟨0, _⟩ =>
    show g.val = if G = 1 then 0 else g.val
    have := g.isLt
    split <;> omega
  | ⟨1, _⟩ => rfl
  | ⟨2, _⟩ => rfl

/-- The choice of the upper lanes. -/
theorem spreadLanes_apply {G M : Nat} (h : S1x1x128.Broadcasts ⟨3, ![G, M, 128]⟩) (g : Fin G) (m : Fin M) (q : Fin 128) :
    spreadLanes h (ix3 g m q) = BitVec.ofBool (decide (64 ≤ q.val)) := by
  unfold spreadLanes
  rw [shapeCast_self]
  refine (broadcastTo_apply upperLanes _ (ix3 g m q) (ix3 0 0 q) fun a => ?_).trans ?_
  · match a with
    | ⟨0, _⟩ => rfl
    | ⟨1, _⟩ => rfl
    | ⟨2, _⟩ => rfl
  · show IntOp.cmpi .sge (lanes3 (ix3 0 0 q)) 64#32 = _
    rw [show lanes3 (ix3 0 0 q) = BitVec.ofNat 32 q.val from iota_single_apply .., cmpi_sge_ofNat (by have := q.isLt; omega) (by norm_num)]

end Cert.SortProof
-- ==== Proof.Net.lean ====
/-
# The network the kernel runs

A column of the whole array has 2048 entries. One stage of the network compares every entry with the one whose position
differs in a single bit; the bitonic network runs sixty-six of them and leaves the column ascending.
-/
module

public import Idealize.ShloMosaic.Lib.SortNet.Sorts
public import Mathlib.Data.EReal.Basic
public import Mathlib.Data.Nat.Bitwise

@[expose] public section

noncomputable section

namespace Cert.SortProof

open Idealize.ShloMosaic Idealize.ShloMosaic.SortNet

/-- What a stage leaves at a place with entry `a` and partner entry `b`: the lesser when exactly one of "this is the first of
    the two places" and "the pair is to descend" holds, the greater otherwise. -/
def choose (first desc : Bool) (a b : EReal) : EReal := if (first ^^ desc) = true then min a b else max a b

/-- A column of the whole array. -/
abbrev Column := Fin 2048 → EReal

/-- The stage at distance `2 ^ s` of the sort of runs of `2 ^ (l + 1)` entries. -/
def step (s l : Nat) (G : Column) : Column :=
  Network.apply (stage 11 s fun i => (decide (i.val &&& 2 ^ (l + 1) = 0)) == false) G

/-- A bit of a number is set when the bitwise conjunction with its power of two is not zero. -/
theorem and_two_pow_eq_zero (x t : Nat) : decide (x &&& 2 ^ t = 0) = !x.testBit t := by
  rw [Nat.and_two_pow]
  cases x.testBit t <;> simp

/-- Exchanging a clear bit adds its power of two. -/
theorem xor_of_clear {x s : Nat} (h : x.testBit s = false) : x ^^^ 2 ^ s = x + 2 ^ s := by
  refine xor_two_pow_of_clear x s ?_
  rw [Nat.and_two_pow, h]
  simp

/-- Exchanging a set bit takes its power of two off. -/
theorem xor_of_set {x s : Nat} (h : x.testBit s = true) : x = (x ^^^ 2 ^ s) + 2 ^ s := by
  have h1 : (x ^^^ 2 ^ s).testBit s = false := by
    rw [Nat.testBit_xor, h, Nat.testBit_two_pow_self]
    rfl
  have h2 := xor_of_clear h1
  rw [Nat.xor_assoc, Nat.xor_self, Nat.xor_zero] at h2
  exact h2

/-- One stage at one place. -/
theorem step_apply {s : Nat} (hs : s < 11) (l : Nat) (hl : s ≤ l) (G : Column) (i i' : Fin 2048) (hi : i'.val = i.val ^^^ 2 ^ s) :
    step s l G i = choose (!i.val.testBit s) (i.val.testBit (l + 1)) (G i) (G i') := by
  have hp : i' = partner 11 s i := Fin.ext (by rw [partner_val hs, hi])
  have hmask : ∀ j : Fin (2 ^ 11), ((decide (j.val &&& 2 ^ (l + 1) = 0)) == false) = j.val.testBit (l + 1) := fun j => by
    rw [and_two_pow_eq_zero]; cases j.val.testBit (l + 1) <;> rfl
  subst hp
  unfold step choose
  cases hb : i.val.testBit s
  · have hz : i.val &&& 2 ^ s = 0 := of_decide_eq_true (by rw [and_two_pow_eq_zero, hb]; rfl)
    rw [(apply_stage hs _ G i hz).1, hmask i]
    cases i.val.testBit (l + 1) <;> rfl
  · have hz : i.val &&& 2 ^ s ≠ 0 := of_decide_eq_false (by rw [and_two_pow_eq_zero, hb]; rfl)
    have e := (apply_stage hs (fun j => (decide (j.val &&& 2 ^ (l + 1) = 0)) == false) G (partner 11 s i) (partner_and_of_set hs i hz)).2
    rw [partner_partner hs] at e
    have hm : (partner 11 s i).val.testBit (l + 1) = i.val.testBit (l + 1) := by
      rw [partner_val hs, Nat.testBit_xor, Nat.testBit_two_pow_of_ne (by omega), Bool.xor_false]
    rw [e, hmask, hm]
    cases i.val.testBit (l + 1)
    · exact max_comm _ _
    · exact min_comm _ _

/-- The stages of a list, one after another. -/
def steps (L : List (Nat × Nat)) (G : Column) : Column := L.foldl (fun G q => step q.1 q.2 G) G

theorem steps_nil (G : Column) : steps [] G = G := rfl
theorem steps_cons (q : Nat × Nat) (L : List (Nat × Nat)) (G : Column) : steps (q :: L) G = steps L (step q.1 q.2 G) := rfl
theorem steps_append (L M : List (Nat × Nat)) (G : Column) : steps (L ++ M) G = steps M (steps L G) := List.foldl_append ..

/-- The last four stages of a merge. -/
def stepsNear (l : Nat) : List (Nat × Nat) := [(3, l), (2, l), (1, l), (0, l)]
theorem steps_near (l : Nat) (G : Column) : steps (stepsNear l) G = step 0 l (step 1 l (step 2 l (step 3 l G))) := by
  simp only [stepsNear, steps_cons, steps_nil]

/-- The stages of the network in order: for runs of 2, 4, …, 2048 entries, the distances from half a run down to one. -/
def allSteps : List (Nat × Nat) := (List.range 11).flatMap fun l => (List.range (l + 1)).reverse.map fun s => (s, l)

theorem steps_eq (L : List (Nat × Nat)) (G : Column) :
    steps L G = Network.apply (L.flatMap fun q => stage 11 q.1 fun i => (decide (i.val &&& 2 ^ (q.2 + 1) = 0)) == false) G := by
  induction L generalizing G with
  | nil => rfl
  | cons q L ih =>
    rw [List.flatMap_cons, Network.apply_append]
    exact ih (step q.1 q.2 G)

/-- All the stages are the bitonic network, -/
theorem allSteps_eq (G : Column) : steps allSteps G = Network.apply (sortNet 11 false) G := by
  rw [steps_eq, allSteps, List.flatMap_assoc]
  unfold sortNet
  simp only [List.flatMap_map]

/-- so they leave the column ascending -/
theorem allSteps_monotone (G : Column) : Monotone (steps allSteps G) := by
  rw [allSteps_eq]
  exact sortNet_apply_monotone 11 G

/-- and only rearranged. -/
theorem allSteps_perm (G : Column) : ∃ σ : Equiv.Perm (Fin 2048), steps allSteps G = G ∘ σ := by
  rw [allSteps_eq]
  exact Network.exists_perm (n := 2 ^ 11) _ G

/-- The place of an entry within its run of `N = 2 ^ p` decides its bits below `p`. -/
theorem run_testBit {N p d r t : Nat} (hN : N = 2 ^ p) (hr : r < N) (ht : t < p) : (N * d + r).testBit t = r.testBit t := by
  subst hN
  rw [Nat.testBit_two_pow_mul_add _ hr, if_pos ht]
/-- The run's number decides the bits from `p` on. -/
theorem run_testBit_high {N p d r t : Nat} (hN : N = 2 ^ p) (hr : r < N) (ht : p ≤ t) : (N * d + r).testBit t = d.testBit (t - p) := by
  subst hN
  rw [Nat.testBit_two_pow_mul_add _ hr, if_neg (by omega)]
/-- Exchanging a bit below `p` stays within the run. -/
theorem run_xor {N p d r s : Nat} (hN : N = 2 ^ p) (hr : r < N) (hs : s < p) : (N * d + r) ^^^ 2 ^ s = N * d + (r ^^^ 2 ^ s) := by
  have hb := run_testBit (d := d) hN hr hs
  cases h : r.testBit s
  · rw [xor_of_clear (hb.trans h), xor_of_clear h, Nat.add_assoc]
  · have h1 := xor_of_set (hb.trans h)
    have h2 := xor_of_set h
    omega

/-- A stage within runs: where `f` holds run `d` of the column and `f'` is got from `f` by comparing places `2 ^ s` apart, `f'`
    holds run `d` of the column after the stage. -/
theorem step_run {N p s l d : Nat} (hN : N = 2 ^ p) (hp : p ≤ 11) (hs : s < p) (hl : s ≤ l) (G : Column) {f f' : Fin N → EReal}
    (hf : ∀ (r : Fin N) (i : Fin 2048), i.val = N * d + r.val → f r = G i)
    (hf' : ∀ r r' : Fin N, r'.val = r.val ^^^ 2 ^ s →
      f' r = choose (!r.val.testBit s) ((N * d + r.val).testBit (l + 1)) (f r) (f r')) :
    ∀ (r : Fin N) (i : Fin 2048), i.val = N * d + r.val → f' r = step s l G i := by
  subst hN
  intro r i hi
  have hlt : r.val ^^^ 2 ^ s < 2 ^ p := Nat.xor_lt_two_pow r.isLt (Nat.pow_lt_pow_right (by norm_num) hs)
  have hlt' : i.val ^^^ 2 ^ s < 2 ^ 11 := Nat.xor_lt_two_pow i.isLt (Nat.pow_lt_pow_right (by norm_num) (by omega))
  rw [step_apply (by omega) l hl G i ⟨i.val ^^^ 2 ^ s, hlt'⟩ rfl, hf' r ⟨r.val ^^^ 2 ^ s, hlt⟩ rfl, hf r i hi,
    hf ⟨r.val ^^^ 2 ^ s, hlt⟩ ⟨i.val ^^^ 2 ^ s, hlt'⟩ (by show i.val ^^^ 2 ^ s = _; rw [hi, run_xor rfl r.isLt hs]),
    ← run_testBit rfl r.isLt hs, ← hi]

end Cert.SortProof
-- ==== Proof.Pointwise.lean ====
/-
# A stage, entry by entry, over the reals

A lane of an array holds a run of a column of the whole; a stage of the kernel, written in any of its three ways, takes it to
the same run of the column after the network's stage.
-/
module

public import proofs.«01_k».proof.Proof.Masks
public import proofs.«01_k».proof.Proof.Net
public import Idealize.ShloMosaic.Lib.ValueIdx

@[expose] public section

noncomputable section

namespace Cert.SortProof

open Cert.KernelIdeal Cert.KernelIdeal.Gen
open Idealize.ShloMosaic Idealize.ShloMosaic.ValueIdx Idealize.ShloMosaic.WordCmp

/-- Lane `q` of the array holds run `d` of the column. -/
def Holds {N C : Nat} (v : FVec Ideal ⟨2, ![N, C]⟩ .bf16) (q : Fin C) (d : Nat) (G : Column) : Prop :=
  ∀ (r : Fin N) (i : Fin 2048), i.val = N * d + r.val → v (ix2 r q) = G i

/-- A choice by a mask. -/
theorem select_ofBool {α : Type} (b : Bool) (x y : α) : Scalar.select (BitVec.ofBool b) x y = if b = true then x else y := by
  cases b <;> rfl

/-- The kept entry of two, by the mask of the lesser. -/
theorem choose_eq (f d : Bool) (a b : EReal) : Scalar.select (BitVec.ofBool (f ^^ d)) (min a b) (max a b) = choose f d a b :=
  select_ofBool _ _ _

/-! ## By rotating rows -/

section Roll
variable {N C p s : Nat}

/-- A rotating stage at one entry: the entry and the one in the row whose bit `s` differs. -/
theorem rollStage_apply (hN : N = 2 ^ p) (hs : s < p) (h : (⟨2, ![N, C]⟩ : Shape).Rotates 0 none) (first low : IVec ⟨2, ![N, C]⟩ 1)
    {up down : BitVec 32} (hup : up.toNat = N - 2 ^ s) (hdown : down.toNat = 2 ^ s) (v : FVec Ideal ⟨2, ![N, C]⟩ .bf16)
    (r r' : Fin N) (hr : r'.val = r.val ^^^ 2 ^ s) (q : Fin C) (D : Bool)
    (hfirst : first (ix2 r q) = BitVec.ofBool (!r.val.testBit s)) (hlow : low (ix2 r q) = BitVec.ofBool (!r.val.testBit s ^^ D)) :
    rollStage h first low up down v (ix2 r q) = choose (!r.val.testBit s) D (v (ix2 r q)) (v (ix2 r' q)) := by
  have hlt : 2 ^ s < N := hN ▸ Nat.pow_lt_pow_right (by norm_num) hs
  have hpos : 0 < 2 ^ s := Nat.two_pow_pos s
  have hr1 := r.isLt
  have hr2 := r'.isLt
  have e : Scalar.select (first (ix2 r q)) (dynamicRotate 0 up none v h (ix2 r q)) (dynamicRotate 0 down none v h (ix2 r q)) = v (ix2 r' q) := by
    rw [hfirst]
    cases hb : r.val.testBit s
    · refine (select_ofBool _ _ _).trans ((if_pos rfl).trans (dynamicRotate_apply 0 up v h (ix2 r q) (ix2 r' q) fun b => ?_))
      match b with
      | ⟨0, _⟩ =>
        show r'.val = (r.val + N - up.toNat % N) % N
        rw [hup, Nat.mod_eq_of_lt (show N - 2 ^ s < N by omega), hr, xor_of_clear hb, show r.val + N - (N - 2 ^ s) = r.val + 2 ^ s by omega,
          Nat.mod_eq_of_lt (by rw [hr, xor_of_clear hb] at hr2; exact hr2)]
      | ⟨1, _⟩ => rfl
    · refine (select_ofBool _ _ _).trans ((if_neg (by decide)).trans (dynamicRotate_apply 0 down v h (ix2 r q) (ix2 r' q) fun b => ?_))
      match b with
      | ⟨0, _⟩ =>
        show r'.val = (r.val + N - down.toNat % N) % N
        have h2 := xor_of_set hb
        rw [← hr] at h2
        rw [hdown, Nat.mod_eq_of_lt hlt, h2, show r'.val + 2 ^ s + N - 2 ^ s = r'.val + N by omega, Nat.add_mod_right, Nat.mod_eq_of_lt hr2]
      | ⟨1, _⟩ => rfl
  rw [← choose_eq, ← hlow, ← e]
  rfl

/-- A rotating stage keeps a lane in step with its run. -/
theorem Holds.roll {l d : Nat} {v : FVec Ideal ⟨2, ![N, C]⟩ .bf16} {q : Fin C} {G : Column} (H : Holds v q d G)
    (hN : N = 2 ^ p) (hp : p ≤ 11) (hs : s < p) (hl : s ≤ l) (h : (⟨2, ![N, C]⟩ : Shape).Rotates 0 none)
    (first low : IVec ⟨2, ![N, C]⟩ 1) {up down : BitVec 32} (hup : up.toNat = N - 2 ^ s) (hdown : down.toNat = 2 ^ s)
    (hfirst : ∀ r, first (ix2 r q) = BitVec.ofBool (!r.val.testBit s))
    (hlow : ∀ r : Fin N, low (ix2 r q) = BitVec.ofBool (!r.val.testBit s ^^ (N * d + r.val).testBit (l + 1))) :
    Holds (rollStage h first low up down v) q d (step s l G) :=
  step_run hN hp hs hl G (f' := fun r => rollStage h first low up down v (ix2 r q)) H fun r r' hr =>
    rollStage_apply hN hs h first low hup hdown v r r' hr q _ (hfirst r) (hlow r)

end Roll

/-! ## By regrouping rows -/

section Fold
variable {N C G M : Nat} (h : Fits N C G M)

section Read
variable (v : FVec Ideal ⟨2, ![N, C]⟩ .bf16) (g : Fin G) (m : Fin M) (c : Fin C)

/-- Entry `m` of the first run of pair `g` is the entry of its row. -/
theorem lows_apply (r : Fin N) (hr : r.val = (g.val * 2 + 0) * M + m.val) : lows h v (ix3 g m c) = v (ix2 r c) := by
  unfold lows
  refine (shapeCast_apply _ h.drop (ix3 g m c) (ix4 g 0 m c) ?_).trans ?_
  · rw [Shape.rowMajor_val_four, Shape.rowMajor_val_three]
    show ((g.val * 1 + 0) * M + m.val) * C + c.val = (g.val * M + m.val) * C + c.val
    rw [Nat.mul_one, Nat.add_zero]
  refine (extractStridedSlice_apply _ _ h.low (ix4 g 0 m c) (ix4 g 0 m c) fun a => ?_).trans ?_
  · match a with
    | ⟨0, _⟩ => show g.val = 0 + g.val; omega
    | ⟨1, _⟩ => rfl
    | ⟨2, _⟩ => show m.val = 0 + m.val; omega
    | ⟨3, _⟩ => show c.val = 0 + c.val; omega
  refine shapeCast_apply v h.split (ix4 g 0 m c) (ix2 r c) ?_
  rw [Shape.rowMajor_val_four, Shape.rowMajor_val_two]
  show r.val * C + c.val = ((g.val * 2 + 0) * M + m.val) * C + c.val
  rw [hr]

/-- Entry `m` of the second run of pair `g` is the entry of its row. -/
theorem highs_apply (r : Fin N) (hr : r.val = (g.val * 2 + 1) * M + m.val) : highs h v (ix3 g m c) = v (ix2 r c) := by
  unfold highs
  refine (shapeCast_apply _ h.drop (ix3 g m c) (ix4 g 0 m c) ?_).trans ?_
  · rw [Shape.rowMajor_val_four, Shape.rowMajor_val_three]
    show ((g.val * 1 + 0) * M + m.val) * C + c.val = (g.val * M + m.val) * C + c.val
    rw [Nat.mul_one, Nat.add_zero]
  refine (extractStridedSlice_apply _ _ h.high (ix4 g 0 m c) (ix4 g 1 m c) fun a => ?_).trans ?_
  · match a with
    | ⟨0, _⟩ => show g.val = 0 + g.val; omega
    | ⟨1, _⟩ => rfl
    | ⟨2, _⟩ => show m.val = 0 + m.val; omega
    | ⟨3, _⟩ => show c.val = 0 + c.val; omega
  refine shapeCast_apply v h.split (ix4 g 1 m c) (ix2 r c) ?_
  rw [Shape.rowMajor_val_four, Shape.rowMajor_val_two]
  show r.val * C + c.val = ((g.val * 2 + 1) * M + m.val) * C + c.val
  rw [hr]

end Read

section Join
variable (a b : FVec Ideal ⟨3, ![G, M, C]⟩ .bf16) (g : Fin G) (m : Fin M) (c : Fin C)

/-- A run of a pair as a piece of the regrouped array. -/
theorem add_apply : shapeCast ⟨4, ![G, 1, M, C]⟩ a h.add (ix4 g 0 m c) = a (ix3 g m c) := by
  refine shapeCast_apply a h.add (ix4 g 0 m c) (ix3 g m c) ?_
  rw [Shape.rowMajor_val_four, Shape.rowMajor_val_three]
  show (g.val * M + m.val) * C + c.val = ((g.val * 1 + 0) * M + m.val) * C + c.val
  rw [Nat.mul_one, Nat.add_zero]

/-- A row of a first run, put back. -/
theorem rejoin_low (r : Fin N) (hr : r.val = (g.val * 2 + 0) * M + m.val) : rejoin h a b (ix2 r c) = a (ix3 g m c) := by
  unfold rejoin
  refine (shapeCast_apply _ h.back (ix2 r c) (ix4 g 0 m c) ?_).trans ?_
  · rw [Shape.rowMajor_val_four, Shape.rowMajor_val_two]
    show ((g.val * 2 + 0) * M + m.val) * C + c.val = r.val * C + c.val
    rw [hr]
  refine (concatenate_pair_apply_left 1 _ _ h.join (ix4 g 0 m c) rfl (ix4 g 0 m c) fun x => ?_).trans (add_apply h a g m c)
  match x with
  | ⟨0, _⟩ => rfl
  | ⟨1, _⟩ => rfl
  | ⟨2, _⟩ => rfl
  | ⟨3, _⟩ => rfl

/-- A row of a second run, put back. -/
theorem rejoin_high (r : Fin N) (hr : r.val = (g.val * 2 + 1) * M + m.val) : rejoin h a b (ix2 r c) = b (ix3 g m c) := by
  unfold rejoin
  refine (shapeCast_apply _ h.back (ix2 r c) (ix4 g 1 m c) ?_).trans ?_
  · rw [Shape.rowMajor_val_four, Shape.rowMajor_val_two]
    show ((g.val * 2 + 1) * M + m.val) * C + c.val = r.val * C + c.val
    rw [hr]
  refine (concatenate_pair_apply_right 1 _ _ h.join (ix4 g 1 m c) rfl rfl (ix4 g 0 m c) (fun x hx => ?_) rfl).trans (add_apply h b g m c)
  match x with
  | ⟨0, _⟩ => rfl
  | ⟨1, _⟩ => exact absurd rfl hx
  | ⟨2, _⟩ => rfl
  | ⟨3, _⟩ => rfl

end Join

variable {s : Nat}

/-- A regrouping stage at one entry: the entry and the one in the row whose bit `s` differs. -/
theorem foldStage_apply (hM : M = 2 ^ s) (hN : N = G * (2 * M)) (desc : IVec ⟨3, ![G, M, C]⟩ 1) (v : FVec Ideal ⟨2, ![N, C]⟩ .bf16)
    (r r' : Fin N) (hr : r'.val = r.val ^^^ 2 ^ s) (c : Fin C) (D : Bool)
    (hd : ∀ (g : Fin G) (m : Fin M), g.val = r.val / 2 ^ (s + 1) → desc (ix3 g m c) = BitVec.ofBool D) :
    foldStage h desc v (ix2 r c) = choose (!r.val.testBit s) D (v (ix2 r c)) (v (ix2 r' c)) := by
  have hpos : 0 < M := hM ▸ Nat.two_pow_pos s
  have hg : r.val / M / 2 < G := by
    rw [Nat.div_div_eq_div_mul, Nat.div_lt_iff_lt_mul (by omega), Nat.mul_comm M 2, ← hN]
    exact r.isLt
  have hgs : r.val / M / 2 = r.val / 2 ^ (s + 1) := by rw [Nat.div_div_eq_div_mul, hM, ← pow_succ]
  have hdm : r.val = r.val / M * M + r.val % M := (Nat.div_add_mod' r.val M).symm
  have hm : r.val % M < M := Nat.mod_lt _ hpos
  have hbit : r.val.testBit s = decide (r.val / M % 2 = 1) := by rw [Nat.testBit_eq_decide_div_mod_eq, hM]
  have hdg := hd ⟨r.val / M / 2, hg⟩ ⟨r.val % M, hm⟩ hgs
  unfold foldStage
  cases hb : r.val.testBit s
  · rw [hb] at hbit
    have hodd : r.val / M = r.val / M / 2 * 2 + 0 := by have := of_decide_eq_false hbit.symm; omega
    have h0 : r.val = (r.val / M / 2 * 2 + 0) * M + r.val % M := by rw [← hodd]; exact hdm
    have h1 : r'.val = (r.val / M / 2 * 2 + 1) * M + r.val % M := by
      rw [hr, xor_of_clear hb, ← hM, Nat.add_mul (_ * 2) 1 M]
      rw [Nat.add_zero] at h0
      omega
    rw [rejoin_low h _ _ ⟨r.val / M / 2, hg⟩ ⟨r.val % M, hm⟩ c r h0]
    show Scalar.select (desc _) (max (lows h v _) (highs h v _)) (min (lows h v _) (highs h v _)) = _
    rw [hdg, lows_apply h v ⟨r.val / M / 2, hg⟩ ⟨r.val % M, hm⟩ c r h0, highs_apply h v ⟨r.val / M / 2, hg⟩ ⟨r.val % M, hm⟩ c r' h1]
    cases D <;> rfl
  · rw [hb] at hbit
    have hodd : r.val / M = r.val / M / 2 * 2 + 1 := by have := of_decide_eq_true hbit.symm; omega
    have h1 : r.val = (r.val / M / 2 * 2 + 1) * M + r.val % M := by rw [← hodd]; exact hdm
    have h0 : r'.val = (r.val / M / 2 * 2 + 0) * M + r.val % M := by
      have h2 := xor_of_set hb
      rw [← hr, ← hM] at h2
      rw [Nat.add_mul (_ * 2) 1 M] at h1
      rw [Nat.add_zero]
      omega
    rw [rejoin_high h _ _ ⟨r.val / M / 2, hg⟩ ⟨r.val % M, hm⟩ c r h1]
    show Scalar.select (desc _) (min (lows h v _) (highs h v _)) (max (lows h v _) (highs h v _)) = _
    rw [hdg, lows_apply h v ⟨r.val / M / 2, hg⟩ ⟨r.val % M, hm⟩ c r' h0, highs_apply h v ⟨r.val / M / 2, hg⟩ ⟨r.val % M, hm⟩ c r h1]
    cases D
    · exact max_comm _ _
    · exact min_comm _ _

/-- A regrouping stage keeps a lane in step with its run. -/
theorem Holds.fold {p l d : Nat} {v : FVec Ideal ⟨2, ![N, C]⟩ .bf16} {q : Fin C} {A : Column} (H : Holds v q d A)
    (hp : p ≤ 11) (hs : s < p) (hl : s ≤ l) (hNp : N = 2 ^ p) (hM : M = 2 ^ s) (hN : N = G * (2 * M)) (desc : IVec ⟨3, ![G, M, C]⟩ 1)
    (hd : ∀ (r : Fin N) (g : Fin G) (m : Fin M), g.val = r.val / 2 ^ (s + 1) →
      desc (ix3 g m q) = BitVec.ofBool ((N * d + r.val).testBit (l + 1))) :
    Holds (foldStage h desc v) q d (step s l A) :=
  step_run hNp hp hs hl A (f' := fun r => foldStage h desc v (ix2 r q)) H fun r r' hr =>
    foldStage_apply h hM hN desc v r r' hr q _ (hd r)

end Fold

/-! ## By rotating lanes -/

/-- The two lanes of the packed array that hold a column: the lower one its first half, the upper one its second. -/
def HoldsBoth (v : FVec Ideal S1024x128 .bf16) (c : Fin 64) (A : Column) : Prop :=
  ∀ (q : Fin 128) (h : Nat), h < 2 → q.val = 64 * h + c.val → Holds v q h A

/-- The stage between the two halves keeps both lanes in step with their column. -/
theorem HoldsBoth.lanes {v : FVec Ideal S1024x128 .bf16} {c : Fin 64} {A : Column} (H : HoldsBoth v c A) :
    HoldsBoth (laneStage v) c (step 10 10 A) := by
  intro q h hh hq r i hi
  have hr := r.isLt
  have hc := c.isLt
  have hmask : broadcastTo S1024x128 (shapeCast S1x128 (cmpi .slt lanes128 (broadcast S1x128 64#32)) shapeCasts_S1x128_S1x128) broadcasts_S1x128_S1024x128 (ix2 r q)
      = BitVec.ofBool (decide (q.val < 64)) := by
    rw [shapeCast_self]
    refine (broadcastTo_apply _ _ (ix2 r q) (ix2 0 q) fun a => ?_).trans ?_
    · match a with
      | ⟨0, _⟩ => rfl
      | ⟨1, _⟩ => rfl
    · show IntOp.cmpi .slt (lanes128 (ix2 0 q)) 64#32 = _
      rw [show lanes128 (ix2 0 q) = BitVec.ofNat 32 q.val from iota_single_apply .., cmpi_slt_ofNat (by have := q.isLt; omega) (by norm_num)]
  have hq' : (q.val + 64) % 128 < 128 := Nat.mod_lt _ (by norm_num)
  have hrot : dynamicRotate 1 64#32 none v rotates_S1024x128_d1 (ix2 r q) = v (ix2 r ⟨(q.val + 64) % 128, hq'⟩) := by
    refine dynamicRotate_apply 1 64#32 v _ (ix2 r q) _ fun b => ?_
    match b with
    | ⟨0, _⟩ => rfl
    | ⟨1, _⟩ =>
      show (q.val + 64) % 128 = (q.val + 128 - 64 % 128) % 128
      omega
  have hi' : 1024 * (1 - h) + r.val < 2048 := by omega
  have hbit : i.val.testBit 10 = decide (h = 1) := by
    rw [Nat.testBit_eq_decide_div_mod_eq]
    exact decide_eq_decide.mpr (by omega)
  have hx : 1024 * (1 - h) + r.val = i.val ^^^ 2 ^ 10 := by
    cases hb : i.val.testBit 10
    · rw [xor_of_clear hb]
      rw [hb] at hbit
      have := of_decide_eq_false hbit.symm
      omega
    · have h2 := xor_of_set hb
      rw [hb] at hbit
      have := of_decide_eq_true hbit.symm
      omega
  have htop : i.val.testBit (10 + 1) = false := Nat.testBit_lt_two_pow (lt_of_lt_of_le i.isLt (by norm_num))
  rw [step_apply (by norm_num) 10 le_rfl A i ⟨_, hi'⟩ hx, htop, hbit]
  show Scalar.select (broadcastTo S1024x128 _ _ (ix2 r q)) (min (v (ix2 r q)) (dynamicRotate 1 64#32 none v _ (ix2 r q)))
    (max (v (ix2 r q)) (dynamicRotate 1 64#32 none v _ (ix2 r q))) = _
  rw [hmask, hrot, H q h hh hq r i hi, H ⟨(q.val + 64) % 128, hq'⟩ (1 - h) (by omega) (by show (q.val + 64) % 128 = _; omega) r ⟨_, hi'⟩ rfl]
  have : decide (q.val < 64) = (!decide (h = 1) ^^ false) := by
    rw [Bool.xor_false, ← decide_not]
    exact decide_eq_decide.mpr (by omega)
  rw [this]
  exact choose_eq _ _ _ _

end Cert.SortProof
-- ==== Proof.LocalStages.lean ====
/-
# The first and third stretch as stages

The device's own sort is twenty-eight stages one after another, and the last merge of a device's slab is seven. The values
named in `Chain` sit between or inside these stages: each is put as the stages that have been completed by then.
-/
module

public import proofs.«01_k».proof.Proof.Stages

@[expose] public section

noncomputable section

namespace Cert.SortProof

open Cert.KernelIdeal Cert.KernelIdeal.Gen
open Idealize.ShloMosaic

variable {F : FTy → Type} [FloatOps F]

/-! ## One block's stages, by distance -/

section Distance
variable (desc : IVec S128x1 1) (v : FVec F S128x64 .bf16)

abbrev near1 := blockRoll 1#32 127#32 desc v
abbrev near2 := blockRoll 2#32 126#32 desc v
abbrev near4 := blockRoll 4#32 124#32 desc v
abbrev near8 := blockRoll 8#32 120#32 desc v

/-- A rotating stage's partner entries at distance 4, read before the choice is made. -/
abbrev partner4 : FVec F S128x64 .bf16 :=
  select (across (rowFirst 4#32)) (dynamicRotate 0 124#32 none v rotates_S128x64_d0) (dynamicRotate 0 4#32 none v rotates_S128x64_d0)

end Distance

/-- Regrouping stages of one block at distances 16, 32 and 64, descending where bit `k` of the row is set. -/
abbrev far16 (k : BitVec 32) (v : FVec F S128x64 .bf16) := foldStage fits64_4 (spread spreads64_4 (groupDesc spreads64_4 32#32 k)) v
abbrev far32 (k : BitVec 32) (v : FVec F S128x64 .bf16) := foldStage fits64_2 (spread spreads64_2 (groupDesc spreads64_2 64#32 k)) v
abbrev far64 (k : BitVec 32) (v : FVec F S128x64 .bf16) := foldStage fits64_1 (spread spreads64_1 (groupDesc spreads64_1 128#32 k)) v
/-- The same with the direction exchanged when `o` is set. -/
abbrev farFlip16 (k : BitVec 32) (o : BitVec 1) (v : FVec F S128x64 .bf16) := foldStage fits64_4 (spread spreads64_4 (groupDescFlip spreads64_4 32#32 k o)) v
abbrev farFlip32 (k : BitVec 32) (o : BitVec 1) (v : FVec F S128x64 .bf16) := foldStage fits64_2 (spread spreads64_2 (groupDescFlip spreads64_2 64#32 k o)) v
abbrev farFlip64 (k : BitVec 32) (o : BitVec 1) (v : FVec F S128x64 .bf16) := foldStage fits64_1 (spread spreads64_1 (groupDescFlip spreads64_1 128#32 k o)) v

/-! ## The device's own sort -/

section Local
variable (o : BitVec 1) (x : FVec F S128x64 .bf16)

/-- The block after the stages that sort runs of 2, 4, 8 and 16 rows. -/
def runs16 : FVec F S128x64 .bf16 :=
  near1 (rowDesc 16#32) (near2 (rowDesc 16#32) (near4 (rowDesc 16#32) (near8 (rowDesc 16#32)
    (near1 (rowDesc 8#32) (near2 (rowDesc 8#32) (near4 (rowDesc 8#32)
      (near1 (rowDesc 4#32) (near2 (rowDesc 4#32) (near1 (rowDesc 2#32) (k0_pay1 x))))))))))
/-- … of 32 rows, … -/
def runs32 : FVec F S128x64 .bf16 :=
  near1 (rowDesc 32#32) (near2 (rowDesc 32#32) (near4 (rowDesc 32#32) (near8 (rowDesc 32#32) (far16 32#32 (runs16 x)))))
/-- … of 64 rows, … -/
def runs64 : FVec F S128x64 .bf16 :=
  near1 (rowDesc 64#32) (near2 (rowDesc 64#32) (near4 (rowDesc 64#32) (near8 (rowDesc 64#32) (far16 64#32 (far32 64#32 (runs32 x))))))
/-- … and of all 128 rows, descending when `o` is set. -/
def runs128 : FVec F S128x64 .bf16 :=
  near1 (rowDescFlip 128#32 o) (near2 (rowDescFlip 128#32 o) (near4 (rowDescFlip 128#32 o) (near8 (rowDescFlip 128#32 o)
    (farFlip16 128#32 o (farFlip32 128#32 o (farFlip64 128#32 o (runs64 x)))))))

theorem a4_eq : a4 x = near2 (rowDesc 4#32) (near1 (rowDesc 2#32) (k0_pay1 x)) := rfl
theorem a5_eq : a5 x = near2 (rowDesc 8#32) (near4 (rowDesc 8#32) (near1 (rowDesc 4#32) (a4 x))) := rfl
theorem a6_eq : a6 x = near8 (rowDesc 16#32) (near1 (rowDesc 8#32) (a5 x)) := rfl
theorem a7_eq : a7 x = near2 (rowDesc 16#32) (near4 (rowDesc 16#32) (a6 x)) := rfl
theorem a8_eq : a8 x = near8 (rowDesc 32#32) (far16 32#32 (near1 (rowDesc 16#32) (a7 x))) := rfl
theorem a9_eq : a9 x = near2 (rowDesc 32#32) (near4 (rowDesc 32#32) (a8 x)) := rfl

theorem runs16_eq : near1 (rowDesc 16#32) (a7 x) = runs16 x := by
  rw [a7_eq, a6_eq, a5_eq, a4_eq]; rfl
theorem runs32_eq : near1 (rowDesc 32#32) (a9 x) = runs32 x := by
  rw [a9_eq, a8_eq, runs16_eq]; rfl

theorem a10_eq : a10 x = minimumf (lows fits64_4 (far32 64#32 (near1 (rowDesc 32#32) (a9 x)))) (highs fits64_4 (far32 64#32 (near1 (rowDesc 32#32) (a9 x)))) := rfl
theorem b10_eq : b10 x = maximumf (lows fits64_4 (far32 64#32 (near1 (rowDesc 32#32) (a9 x)))) (highs fits64_4 (far32 64#32 (near1 (rowDesc 32#32) (a9 x)))) := rfl

/-- The block part-way through the sort of runs of 64 rows: distances 32, 16 and 8 are done. -/
def half64 : FVec F S128x64 .bf16 := near8 (rowDesc 64#32) (far16 64#32 (far32 64#32 (runs32 x)))

theorem a11_eq : a11 x = minimumf (half64 x) (partner4 (half64 x)) := by
  rw [a11, a10_eq, b10_eq, runs32_eq]; rfl
theorem b11_eq : b11 x = maximumf (half64 x) (partner4 (half64 x)) := by
  rw [b11, a10_eq, b10_eq, runs32_eq]; rfl
theorem a12_eq : a12 x = lows fits64_1 (runs64 x) := by
  rw [a12, a11_eq, b11_eq]; rfl
theorem b12_eq : b12 x = extractStridedSlice S1x1x64x64 ![0, 1, 0, 0] (shapeCast S1x2x64x64 (runs64 x) shapeCasts_S128x64_S1x2x64x64) slices_S1x2x64x64_o0_1_0_0_S1x1x64x64 := by
  rw [b12, a11_eq, b11_eq]; rfl

/-- The block part-way through the sort of all rows: distances 64 and 32 are done. -/
def half128 : FVec F S128x64 .bf16 := farFlip32 128#32 o (farFlip64 128#32 o (runs64 x))

theorem a13_eq : a13 o x = lows fits64_4 (half128 o x) := by
  rw [a13, a12_eq, b12_eq]; rfl
theorem b13_eq : b13 o x = highs fits64_4 (half128 o x) := by
  rw [b13, a12_eq, b12_eq]; rfl
theorem c13_eq : c13 o x = minimumf (lows fits64_4 (half128 o x)) (highs fits64_4 (half128 o x)) := by
  rw [c13, a12_eq, b12_eq]; rfl
theorem a14_eq : a14 o x = near8 (rowDescFlip 128#32 o) (farFlip16 128#32 o (half128 o x)) := by
  rw [a14, a13_eq, b13_eq, c13_eq]; rfl
theorem a15_eq : a15 o x = near2 (rowDescFlip 128#32 o) (near4 (rowDescFlip 128#32 o) (a14 o x)) := rfl
/-- The stored slot is the block after its twenty-eight stages. -/
theorem ownSort_eq : ownSort o x = shapeCast S1x128x64 (runs128 o x) shapeCasts_S128x64_S1x128x64 := by
  have h : ownSort o x = shapeCast S1x128x64 (near1 (rowDescFlip 128#32 o) (a15 o x)) shapeCasts_S128x64_S1x128x64 := rfl
  rw [h, a15_eq, a14_eq]; rfl

end Local

/-! ## The last merge -/

section Final
variable (v : BitVec 32) (w : Vec F S1x128x128 .bf16)

/-- The device's half of its slab. -/
def ownHalf : FVec F S128x64 .bf16 :=
  Scalar.select (Scalar.cmpi .slt v 8#32)
    (extractStridedSlice S128x64 ![0, 0] (shapeCast S128x128 w shapeCasts_S1x128x128_S128x128) slices_S128x128_o0_0_S128x64)
    (extractStridedSlice S128x64 ![0, 64] (shapeCast S128x128 w shapeCasts_S1x128x128_S128x128) slices_S128x128_o0_64_S128x64)
/-- The half after the merging stages at distances 64 to 1. -/
def merged : FVec F S128x64 .bf16 :=
  near1 (rowDesc 4096#32) (near2 (rowDesc 4096#32) (near4 (rowDesc 4096#32) (near8 (rowDesc 4096#32)
    (far16 4096#32 (far32 4096#32 (far64 4096#32 (ownHalf v w)))))))

theorem a44_eq : a44 v w = minimumf (lows fits64_1 (ownHalf v w)) (highs fits64_1 (ownHalf v w)) := rfl
theorem b44_eq : b44 v w = maximumf (lows fits64_1 (ownHalf v w)) (highs fits64_1 (ownHalf v w)) := rfl
theorem a45_eq : a45 v w = minimumf (lows fits64_4 (far32 4096#32 (far64 4096#32 (ownHalf v w)))) (highs fits64_4 (far32 4096#32 (far64 4096#32 (ownHalf v w)))) := by
  rw [a45, a44_eq, b44_eq]; rfl
theorem b45_eq : b45 v w = maximumf (lows fits64_4 (far32 4096#32 (far64 4096#32 (ownHalf v w)))) (highs fits64_4 (far32 4096#32 (far64 4096#32 (ownHalf v w)))) := by
  rw [b45, a44_eq, b44_eq]; rfl

/-- The half part-way: distances 64 to 8 are done. -/
def halfMerged : FVec F S128x64 .bf16 := near8 (rowDesc 4096#32) (far16 4096#32 (far32 4096#32 (far64 4096#32 (ownHalf v w))))

theorem a46_eq : a46 v w = minimumf (halfMerged v w) (partner4 (halfMerged v w)) := by
  rw [a46, a45_eq, b45_eq]; rfl
theorem b46_eq : b46 v w = maximumf (halfMerged v w) (partner4 (halfMerged v w)) := by
  rw [b46, a45_eq, b45_eq]; rfl
/-- The stored result is the merged half, each entry widened. -/
theorem finish_eq : finish v w = extf .f32 (merged v w) bitsLt_bf16_f32 := by
  rw [finish, a46_eq, b46_eq]; rfl

end Final

end Cert.SortProof
-- ==== Proof.PackStages.lean ====
/-
# The second stretch as stages

From the sixteen gathered blocks, laid side by side in one array, to the array the kernel stores: three merges of ten rows'
distances each (of pairs, of fours and of eights of blocks) and the first four distances of the merge of all sixteen. The
values named in `Chain` sit between or inside these stages: each is put as the stages that have been completed by then.
-/
module

public import proofs.«01_k».proof.Proof.Stages

@[expose] public section

noncomputable section

namespace Cert.SortProof

open Cert.KernelIdeal Cert.KernelIdeal.Gen
open Idealize.ShloMosaic

variable {F : FTy → Type} [FloatOps F]

/-! ## The packed array's stages, by distance -/

section Distance
variable (k : BitVec 32) (v : FVec F S1024x128 .bf16)

abbrev pack1 := packRoll 1#32 1023#32 k v
abbrev pack2 := packRoll 2#32 1022#32 k v
abbrev pack4 := packRoll 4#32 1020#32 k v
abbrev pack8 := packRoll 8#32 1016#32 k v
abbrev pack16 := foldStage fits128_32 (spread spreads128_32 (groupDesc spreads128_32 32#32 k)) v
abbrev pack32 := foldStage fits128_16 (spread spreads128_16 (groupDesc spreads128_16 64#32 k)) v
abbrev pack64 := foldStage fits128_8 (spread spreads128_8 (groupDesc spreads128_8 128#32 k)) v
abbrev pack128 := foldStage fits128_4 (spread spreads128_4 (groupDesc spreads128_4 256#32 k)) v
abbrev pack256 := foldStage fits128_2 (spread spreads128_2 (groupDesc spreads128_2 512#32 k)) v
abbrev pack512 := foldStage fits128_1 (spread spreads128_1 (groupDesc spreads128_1 1024#32 k)) v

/-! The same, ascending in the lower lanes and descending in the upper ones. -/

abbrev halves16 := foldStage fits128_32 (spreadLanes broadcasts_S1x1x128_S32x16x128) v
abbrev halves32 := foldStage fits128_16 (spreadLanes broadcasts_S1x1x128_S16x32x128) v
abbrev halves64 := foldStage fits128_8 (spreadLanes broadcasts_S1x1x128_S8x64x128) v
abbrev halves128 := foldStage fits128_4 (spreadLanes broadcasts_S1x1x128_S4x128x128) v
abbrev halves256 := foldStage fits128_2 (spreadLanes broadcasts_S1x1x128_S2x256x128) v
abbrev halves512 := foldStage fits128_1 (spreadLanes broadcasts_S1x1x128_S1x512x128) v

/-- The partner entries of the rotating stage at distance `j`, read before the choice is made. -/
abbrev packPartner (j up : BitVec 32) (v : FVec F S1024x128 .bf16) : FVec F S1024x128 .bf16 :=
  select (posFirst j) (dynamicRotate 0 up none v rotates_S1024x128_d0) (dynamicRotate 0 j none v rotates_S1024x128_d0)

end Distance

section Packed
variable (g : Vec F S16x128x64 .bf16)

/-- The gathered blocks side by side: blocks 0 to 7 below one another in the lower lanes, 8 to 15 in the upper ones. -/
def sideBySide : FVec F S1024x128 .bf16 :=
  concatenate S1024x128 1
    [⟨S1024x64, shapeCast S1024x64 (extractStridedSlice S8x128x64 ![0, 0, 0] g slices_S16x128x64_o0_0_0_S8x128x64) shapeCasts_S8x128x64_S1024x64⟩,
      ⟨S1024x64, shapeCast S1024x64 (extractStridedSlice S8x128x64 ![8, 0, 0] g slices_S16x128x64_o8_0_0_S8x128x64) shapeCasts_S8x128x64_S1024x64⟩]
    concatenates_S1024x64_S1024x64_S1024x128_d1

/-- The packed array after the merge at distances 128 to 16, of pairs of blocks, … -/
def begun256 : FVec F S1024x128 .bf16 := pack16 256#32 (pack32 256#32 (pack64 256#32 (pack128 256#32 (sideBySide g))))
/-- … after the rest of that merge, … -/
def runs256 : FVec F S1024x128 .bf16 := pack1 256#32 (pack2 256#32 (pack4 256#32 (pack8 256#32 (begun256 g))))
/-- … after the regrouping stages of the merge of fours, … -/
def begun512 : FVec F S1024x128 .bf16 := pack16 512#32 (pack32 512#32 (pack64 512#32 (pack128 512#32 (pack256 512#32 (runs256 g)))))
/-- … after the rest of that merge, … -/
def runs512 : FVec F S1024x128 .bf16 := pack1 512#32 (pack2 512#32 (pack4 512#32 (pack8 512#32 (begun512 g))))
/-- … after the regrouping stages of the merge of eights, … -/
def begun1024 : FVec F S1024x128 .bf16 := halves16 (halves32 (halves64 (halves128 (halves256 (halves512 (runs512 g))))))
/-- … after the rest of that merge, … -/
def runs1024 : FVec F S1024x128 .bf16 := pack1 1024#32 (pack2 1024#32 (pack4 1024#32 (pack8 1024#32 (begun1024 g))))
/-- … and after the first four distances of the last merge. -/
def begun2048 : FVec F S1024x128 .bf16 := pack128 2048#32 (pack256 2048#32 (pack512 2048#32 (laneStage (runs1024 g))))

theorem a26_eq : shapeCast S1024x128 (a26 g) shapeCasts_S4x2x128x128_S1024x128 = pack128 256#32 (sideBySide g) := rfl
theorem a27_eq : a27 g = lows fits128_32 (pack32 256#32 (pack64 256#32 (pack128 256#32 (sideBySide g)))) := by
  rw [← a26_eq]; rfl
theorem b27_eq : b27 g = highs fits128_32 (pack32 256#32 (pack64 256#32 (pack128 256#32 (sideBySide g)))) := by
  rw [← a26_eq]; rfl
theorem a28_eq : a28 g = pack8 256#32 (begun256 g) := by
  rw [a28, a27_eq, b27_eq]; rfl
theorem a29_eq : a29 g = pack4 256#32 (a28 g) := rfl
theorem b29_eq : b29 g = packPartner 2#32 1022#32 (a29 g) := rfl
theorem runs256_eq : pack1 256#32 (pack2 256#32 (a29 g)) = runs256 g := by
  rw [a29_eq, a28_eq]; rfl
theorem a30_eq : a30 g = minimumf (lows fits128_2 (runs256 g)) (highs fits128_2 (runs256 g)) := by
  rw [a30, b29_eq, ← runs256_eq]; rfl
theorem b30_eq : b30 g = maximumf (lows fits128_2 (runs256 g)) (highs fits128_2 (runs256 g)) := by
  rw [b30, b29_eq, ← runs256_eq]; rfl
theorem c30_eq : c30 g = select (spread spreads128_2 (groupDesc spreads128_2 512#32 512#32))
    (maximumf (lows fits128_2 (runs256 g)) (highs fits128_2 (runs256 g))) (minimumf (lows fits128_2 (runs256 g)) (highs fits128_2 (runs256 g))) := by
  rw [c30, b29_eq, ← runs256_eq]; rfl
theorem a31_eq : a31 g = shapeCast S16x2x32x128 (pack64 512#32 (pack128 512#32 (pack256 512#32 (runs256 g)))) shapeCasts_S1024x128_S16x2x32x128 := by
  rw [a31, a30_eq, b30_eq, c30_eq]; rfl
theorem a32_eq : a32 g = begun512 g := by
  rw [a32, a31_eq]; rfl
theorem a33_eq : a33 g = minimumf (pack8 512#32 (begun512 g)) (packPartner 4#32 1020#32 (pack8 512#32 (begun512 g))) := by
  rw [a33, a32_eq]; rfl
theorem b33_eq : b33 g = maximumf (pack8 512#32 (begun512 g)) (packPartner 4#32 1020#32 (pack8 512#32 (begun512 g))) := by
  rw [b33, a32_eq]; rfl
theorem a34_eq : a34 g = pack2 512#32 (pack4 512#32 (pack8 512#32 (begun512 g))) := by
  rw [a34, a33_eq, b33_eq]; rfl
theorem a35_eq : a35 g = minimumf (lows fits128_4 (halves256 (halves512 (runs512 g)))) (highs fits128_4 (halves256 (halves512 (runs512 g)))) := by
  rw [a35, a34_eq]; rfl
theorem b35_eq : b35 g = maximumf (lows fits128_4 (halves256 (halves512 (runs512 g)))) (highs fits128_4 (halves256 (halves512 (runs512 g)))) := by
  rw [b35, a34_eq]; rfl

/-- The packed array within the merge of eights: distances 512 to 32 are done. -/
def part1024 : FVec F S1024x128 .bf16 := halves32 (halves64 (halves128 (halves256 (halves512 (runs512 g)))))

theorem a36_eq : a36 g = lows fits128_32 (part1024 g) := by
  rw [a36, a35_eq, b35_eq]; rfl
theorem b36_eq : b36 g = highs fits128_32 (part1024 g) := by
  rw [b36, a35_eq, b35_eq]; rfl
theorem c36_eq : c36 g = minimumf (lows fits128_32 (part1024 g)) (highs fits128_32 (part1024 g)) := by
  rw [c36, a35_eq, b35_eq]; rfl
theorem a37_eq : a37 g = pack8 1024#32 (begun1024 g) := by
  rw [a37, a36_eq, b36_eq, c36_eq]; rfl
theorem a38_eq : a38 g = pack2 1024#32 (pack4 1024#32 (a37 g)) := rfl
theorem runs1024_eq : pack1 1024#32 (a38 g) = runs1024 g := by
  rw [a38_eq, a37_eq]; rfl
theorem a39_eq : a39 g = minimumf (lows fits128_1 (laneStage (runs1024 g))) (highs fits128_1 (laneStage (runs1024 g))) := by
  rw [← runs1024_eq]; rfl
theorem b39_eq : b39 g = maximumf (lows fits128_1 (laneStage (runs1024 g))) (highs fits128_1 (laneStage (runs1024 g))) := by
  rw [← runs1024_eq]; rfl

/-- The packed array within the last merge: distances 1024 to 256 are done. -/
def part2048 : FVec F S1024x128 .bf16 := pack256 2048#32 (pack512 2048#32 (laneStage (runs1024 g)))

theorem a40_eq : a40 g = select (spread spreads128_4 (groupDesc spreads128_4 256#32 2048#32))
    (minimumf (lows fits128_4 (part2048 g)) (highs fits128_4 (part2048 g))) (maximumf (lows fits128_4 (part2048 g)) (highs fits128_4 (part2048 g))) := by
  rw [a40, a39_eq, b39_eq]; rfl
theorem b40_eq : b40 g = shapeCast S4x1x128x128 (select (spread spreads128_4 (groupDesc spreads128_4 256#32 2048#32))
    (maximumf (lows fits128_4 (part2048 g)) (highs fits128_4 (part2048 g))) (minimumf (lows fits128_4 (part2048 g)) (highs fits128_4 (part2048 g))))
    shapeCasts_S4x128x128_S4x1x128x128 := by
  rw [b40, a39_eq, b39_eq]; rfl
/-- The stored array is the gathered blocks after these stages, cut into eight slabs. -/
theorem packed_eq : packed g = shapeCast S8x128x128 (shapeCast S8x128x128 (begun2048 g) shapeCasts_S1024x128_S8x128x128) shapeCasts_S8x128x128_S8x128x128 := by
  rw [packed, a40_eq, b40_eq]; rfl

end Packed

end Cert.SortProof
-- ==== Proof.Directions.lean ====
/-
# The directions the stages take

A stage's mask says of every row whether its pair is to descend. Each lemma here says of one of the kernel's masks that this
is what the network asks of the entry's place in its column; the stages of the block and of the packed array follow, one lemma
for each way of writing a stage.
-/
module

public import proofs.«01_k».proof.Proof.Pointwise
public import proofs.«01_k».proof.Proof.LocalStages
public import proofs.«01_k».proof.Proof.PackStages

@[expose] public section

noncomputable section

namespace Cert.SortProof

open Cert.KernelIdeal Cert.KernelIdeal.Gen
open Idealize.ShloMosaic Idealize.ShloMosaic.ValueIdx Idealize.ShloMosaic.WordCmp

/-- In a column of 2048 no pair of the last merge descends. -/
theorem last_ascends {n : Nat} (hn : n < 2048) : n.testBit (10 + 1) = false :=
  Nat.testBit_lt_two_pow (lt_of_lt_of_le hn (by norm_num))

/-- Bits from `p` on are clear in a row number below `2 ^ p`. -/
theorem row_testBit_high {p r t : Nat} (hr : r < 2 ^ p) (ht : p ≤ t) : r.testBit t = false :=
  Nat.testBit_lt_two_pow (lt_of_lt_of_le hr (Nat.pow_le_pow_right (by norm_num) ht))

/-! ## Masks by row -/

/-- The mask descends where the network's sort of runs of `2 ^ (l + 1)` does, for the rows of run `d`. -/
def RowDir (desc : IVec S128x1 1) (d l : Nat) : Prop :=
  ∀ r : Fin 128, desc (ix2 r 0) = BitVec.ofBool ((128 * d + r.val).testBit (l + 1))

theorem rowDir_run {k : BitVec 32} {l : Nat} (d : Nat) (hk : k.toNat = 2 ^ (l + 1)) (hl : l + 1 < 7) : RowDir (rowDesc k) d l := fun r => by
  rw [rowDesc_apply hk, run_testBit (N := 128) (p := 7) rfl r.isLt hl]
theorem rowDir_flip (d : Nat) : RowDir (rowDescFlip 128#32 (BitVec.ofBool (d.testBit 0))) d 6 := fun r => by
  rw [rowDescFlip_apply (t := 7) rfl, row_testBit_high (p := 7) r.isLt le_rfl, Bool.false_xor,
    run_testBit_high (N := 128) (p := 7) (t := 6 + 1) rfl r.isLt le_rfl]
theorem rowDir_last {d : Nat} (hd : d < 16) : RowDir (rowDesc 4096#32) d 10 := fun r => by
  rw [rowDesc_apply (t := 12) rfl, row_testBit_high (p := 7) r.isLt (by norm_num), last_ascends (by have := r.isLt; omega)]

/-! ## Masks by group of rows -/

/-- The same for a mask that answers once for each group of `2 ^ (s + 1)` of the `N` rows of run `d`. -/
def GroupDir (N s : Nat) {G : Nat} (desc : IVec ⟨3, ![G, 1, 1]⟩ 1) (d l : Nat) : Prop :=
  ∀ (r : Fin N) (g : Fin G), g.val = r.val / 2 ^ (s + 1) → desc (ix3 g 0 0) = BitVec.ofBool ((N * d + r.val).testBit (l + 1))

section Groups
variable {G M C s t : Nat} (h : Spreads G M C) {w k : BitVec 32}

/-- A group's mask reads the bit of any row in the group. -/
theorem groupDesc_row (hk : k.toNat = 2 ^ t) (hw : w.toNat = 2 ^ (s + 1)) (hG : G * w.toNat < 2 ^ 32) (ht : s < t) (r : Nat) (g : Fin G)
    (hg : g.val = r / 2 ^ (s + 1)) : groupDesc h w k (ix3 g 0 0) = BitVec.ofBool (r.testBit t) := by
  rw [groupDesc_apply hk h w g hG, hw, hg, Nat.testBit_mul_two_pow, decide_eq_true (show s + 1 ≤ t by omega), Bool.true_and,
    Nat.testBit_div_two_pow]
  congr 2
  omega

theorem groupDir_run {N p l : Nat} (d : Nat) (hN : N = 2 ^ p) (hk : k.toNat = 2 ^ (l + 1)) (hw : w.toNat = 2 ^ (s + 1))
    (hG : G * w.toNat < 2 ^ 32) (hs : s ≤ l) (hl : l + 1 < p) : GroupDir N s (groupDesc h w k) d l := fun r g hg => by
  subst hN
  rw [groupDesc_row h hk hw hG (by omega) r.val g hg, run_testBit rfl r.isLt hl]
theorem groupDir_last {N p d : Nat} (hN : N = 2 ^ p) (hk : k.toNat = 2 ^ t) (hw : w.toNat = 2 ^ (s + 1)) (hG : G * w.toNat < 2 ^ 32)
    (hs : s < p) (ht : p ≤ t) (hd : N * d + N ≤ 2048) : GroupDir N s (groupDesc h w k) d 10 := fun r g hg => by
  subst hN
  rw [groupDesc_row h hk hw hG (by omega) r.val g hg, row_testBit_high r.isLt ht, last_ascends (by have := r.isLt; omega)]
theorem groupDir_flip (d : Nat) (hw : w.toNat = 2 ^ (s + 1)) (hG : G * w.toNat < 2 ^ 32) (hs : s < 7) :
    GroupDir 128 s (groupDescFlip h w 128#32 (BitVec.ofBool (d.testBit 0))) d 6 := fun r g hg => by
  show IntOp.xori (groupDesc h w 128#32 (ix3 g 0 0)) (BitVec.ofBool (d.testBit 0)) = _
  rw [groupDesc_row (t := 7) h rfl hw hG hs r.val g hg, ofBool_xori, row_testBit_high (p := 7) r.isLt le_rfl, Bool.false_xor,
    run_testBit_high (N := 128) (p := 7) (t := 6 + 1) rfl r.isLt le_rfl]

end Groups

/-- A regrouping stage whose mask answers once for each group. -/
theorem Holds.far {N C G M p s l d : Nat} {v : FVec Ideal ⟨2, ![N, C]⟩ .bf16} {q : Fin C} {A : Column} (H : Holds v q d A)
    (h : Fits N C G M) (sp : Spreads G M C) {desc : IVec ⟨3, ![G, 1, 1]⟩ 1} (hd : GroupDir N s desc d l)
    (hp : N = 2 ^ p ∧ p ≤ 11 ∧ s < p ∧ s ≤ l ∧ M = 2 ^ s ∧ N = G * (2 * M)) :
    Holds (foldStage h (spread sp desc) v) q d (step s l A) :=
  H.fold h hp.2.1 hp.2.2.1 hp.2.2.2.1 hp.1 hp.2.2.2.2.1 hp.2.2.2.2.2 _ fun r g m hg => (spread_apply sp desc g m q).trans (hd r g hg)

/-! ## Rotating stages -/

section Near
variable {v : FVec Ideal S128x64 .bf16} {q : Fin 64} {d l : Nat} {A : Column} {desc : IVec S128x1 1}

/-- A rotating stage of a block. -/
theorem Holds.near (H : Holds v q d A) (hd : RowDir desc d l) (s : Nat) (j up : BitVec 32)
    (hj : j.toNat = 2 ^ s ∧ up.toNat = 128 - 2 ^ s ∧ s < 7) (hl : s ≤ l) : Holds (blockRoll j up desc v) q d (step s l A) := by
  have hf : ∀ r, rowFirst j (ix2 r 0) = BitVec.ofBool (!r.val.testBit s) := fun r => rowFirst_apply hj.1 r 0
  refine H.roll (p := 7) rfl (by norm_num) hj.2.2 hl _ _ _ hj.2.1 hj.1 (fun r => (across_apply _ r q).trans (hf r)) fun r => ?_
  refine (across_apply _ r q).trans ?_
  show IntOp.xori (rowFirst j (ix2 r 0)) (desc (ix2 r 0)) = _
  rw [hf, hd r, ofBool_xori]

/-- The four rotating stages that end a merge of a block. -/
theorem Holds.nearAll (H : Holds v q d A) (hd : RowDir desc d l) (hl : 3 ≤ l) :
    Holds (near1 desc (near2 desc (near4 desc (near8 desc v)))) q d (steps (stepsNear l) A) := by
  rw [steps_near]
  exact (((H.near hd 3 8#32 120#32 (by decide) hl).near hd 2 4#32 124#32 (by decide) (by omega)).near hd 1 2#32 126#32 (by decide) (by omega)).near
    hd 0 1#32 127#32 (by decide) (by omega)

end Near

section Pack
variable {v : FVec Ideal S1024x128 .bf16} {c : Fin 64} {l : Nat} {A : Column} {k : BitVec 32}

/-- A rotating stage of the packed array. -/
theorem HoldsBoth.roll (H : HoldsBoth v c A) (hk : k.toNat = 2 ^ (l + 1)) (s : Nat) (j up : BitVec 32)
    (hj : j.toNat = 2 ^ s ∧ up.toNat = 1024 - 2 ^ s ∧ s < 10) (hl : s ≤ l) : HoldsBoth (packRoll j up k v) c (step s l A) := by
  intro q h hh hq
  have hqh : q.val / 64 = h := by have := c.isLt; omega
  have hf : ∀ r, posFirst j (ix2 r q) = BitVec.ofBool (!r.val.testBit s) := fun r => by
    rw [posFirst_apply hj.1, run_testBit (N := 1024) (p := 10) rfl r.isLt hj.2.2]
  refine (H q h hh hq).roll (p := 10) rfl (by norm_num) hj.2.2 hl _ _ _ hj.2.1 hj.1 hf fun r => ?_
  show IntOp.xori (posFirst j (ix2 r q)) (posDesc k (ix2 r q)) = _
  rw [hf, posDesc_apply hk, hqh, ofBool_xori]

/-- The four rotating stages that end a merge of the packed array. -/
theorem HoldsBoth.rollAll (H : HoldsBoth v c A) (hk : k.toNat = 2 ^ (l + 1)) (hl : 3 ≤ l) :
    HoldsBoth (pack1 k (pack2 k (pack4 k (pack8 k v)))) c (steps (stepsNear l) A) := by
  rw [steps_near]
  exact (((H.roll hk 3 8#32 1016#32 (by decide) hl).roll hk 2 4#32 1020#32 (by decide) (by omega)).roll hk 1 2#32 1022#32 (by decide) (by omega)).roll
    hk 0 1#32 1023#32 (by decide) (by omega)

/-- A regrouping stage of the packed array. -/
theorem HoldsBoth.far {G M s : Nat} (H : HoldsBoth v c A) (h : Fits 1024 128 G M) (sp : Spreads G M 128) {desc : IVec ⟨3, ![G, 1, 1]⟩ 1}
    (hd : ∀ d, d < 2 → GroupDir 1024 s desc d l) (hp : s < 10 ∧ s ≤ l ∧ M = 2 ^ s ∧ 1024 = G * (2 * M)) :
    HoldsBoth (foldStage h (spread sp desc) v) c (step s l A) := fun q d hd' hq =>
  (H q d hd' hq).far (p := 10) h sp (hd d hd') ⟨rfl, by norm_num, hp⟩

/-- A regrouping stage of the merge of eights, ascending in the lower lanes and descending in the upper ones. -/
theorem HoldsBoth.halves {G M s : Nat} (H : HoldsBoth v c A) (h : Fits 1024 128 G M) (b : S1x1x128.Broadcasts ⟨3, ![G, M, 128]⟩)
    (hp : s < 10 ∧ M = 2 ^ s ∧ 1024 = G * (2 * M)) : HoldsBoth (foldStage h (spreadLanes b) v) c (step s 9 A) := by
  intro q d hd hq
  refine (H q d hd hq).fold (p := 10) h (by norm_num) hp.1 (by omega) rfl hp.2.1 hp.2.2 _ fun r g m hg => ?_
  rw [spreadLanes_apply, run_testBit_high (N := 1024) (p := 10) (t := 9 + 1) rfl r.isLt le_rfl]
  have hc := c.isLt
  congr 1
  rw [Nat.testBit_eq_decide_div_mod_eq]
  refine decide_eq_decide.mpr ?_
  rw [show d / 2 ^ (9 + 1 - 10) = d by norm_num]
  omega

end Pack

end Cert.SortProof
-- ==== Proof.Stretches.lean ====
/-
# What the three stretches leave

The stages of the network in the order in which the kernel runs them, and what each stretch makes of a lane that holds a run of
a column: the block's own sort, the merges of the packed array, the last merge of a block.
-/
module

public import proofs.«01_k».proof.Proof.Directions

@[expose] public section

noncomputable section

namespace Cert.SortProof

attribute [local irreducible] step steps

open Cert.KernelIdeal Cert.KernelIdeal.Gen
open Idealize.ShloMosaic Idealize.ShloMosaic.ValueIdx

/-- The sorts of runs of 2, 4, 8 and 16 entries, -/
def steps16 : List (Nat × Nat) := [(0, 0), (1, 1), (0, 1), (2, 2), (1, 2), (0, 2)] ++ stepsNear 3
/-- the sorts of runs of 32, 64 and 128 entries: the stages a device runs on its block, -/
def localSteps : List (Nat × Nat) :=
  steps16 ++ [(4, 4)] ++ stepsNear 4 ++ [(5, 5), (4, 5)] ++ stepsNear 5 ++ [(6, 6), (5, 6), (4, 6)] ++ stepsNear 6
/-- the sorts of runs of 256, 512 and 1024 entries and the start of the last merge: the stages of the packed array, -/
def packSteps : List (Nat × Nat) :=
  [(7, 7), (6, 7), (5, 7), (4, 7)] ++ stepsNear 7 ++ [(8, 8), (7, 8), (6, 8), (5, 8), (4, 8)] ++ stepsNear 8
    ++ [(9, 9), (8, 9), (7, 9), (6, 9), (5, 9), (4, 9)] ++ stepsNear 9 ++ [(10, 10), (9, 10), (8, 10), (7, 10)]
/-- and the end of the last merge: the stages a device runs on its part of the result. -/
def lastSteps : List (Nat × Nat) := [(6, 10), (5, 10), (4, 10)] ++ stepsNear 10

/-- Together they are the whole network. -/
theorem allSteps_split : allSteps = localSteps ++ packSteps ++ lastSteps := by decide

/-! ## The block's own sort -/

section Local
variable {x : FVec Ideal S128x64 .bf16} {q : Fin 64} {d : Nat} {A : Column}

theorem Holds.runs16 (H : Holds x q d A) : Holds (runs16 x) q d (steps steps16 A) := by
  have e : k0_pay1 x = x := shapeCast_self _ _
  unfold SortProof.runs16
  rw [e]
  simp only [steps16, steps_append, steps_cons, steps_nil]
  have h2 := rowDir_run (k := 2#32) (l := 0) d rfl (by norm_num)
  have h4 := rowDir_run (k := 4#32) (l := 1) d rfl (by norm_num)
  have h8 := rowDir_run (k := 8#32) (l := 2) d rfl (by norm_num)
  have H2 := H.near h2 0 1#32 127#32 (by decide) (by norm_num)
  have H4 := (H2.near h4 1 2#32 126#32 (by decide) (by norm_num)).near h4 0 1#32 127#32 (by decide) (by norm_num)
  have H8 := ((H4.near h8 2 4#32 124#32 (by decide) (by norm_num)).near h8 1 2#32 126#32 (by decide) (by norm_num)).near h8 0 1#32 127#32
    (by decide) (by norm_num)
  exact H8.nearAll (rowDir_run (k := 16#32) (l := 3) d rfl (by norm_num)) le_rfl

/-- Each of the block's three regrouping stages, with any mask that answers by group. -/
theorem Holds.far16 {l : Nat} {desc : IVec ⟨3, ![4, 1, 1]⟩ 1} (H : Holds x q d A) (hl : 4 ≤ l) (hd : GroupDir 128 4 desc d l) :
    Holds (foldStage fits64_4 (spread spreads64_4 desc) x) q d (step 4 l A) :=
  H.far (p := 7) fits64_4 spreads64_4 hd ⟨rfl, by norm_num, by norm_num, hl, rfl, rfl⟩
theorem Holds.far32 {l : Nat} {desc : IVec ⟨3, ![2, 1, 1]⟩ 1} (H : Holds x q d A) (hl : 5 ≤ l) (hd : GroupDir 128 5 desc d l) :
    Holds (foldStage fits64_2 (spread spreads64_2 desc) x) q d (step 5 l A) :=
  H.far (p := 7) fits64_2 spreads64_2 hd ⟨rfl, by norm_num, by norm_num, hl, rfl, rfl⟩
theorem Holds.far64 {l : Nat} {desc : IVec ⟨3, ![1, 1, 1]⟩ 1} (H : Holds x q d A) (hl : 6 ≤ l) (hd : GroupDir 128 6 desc d l) :
    Holds (foldStage fits64_1 (spread spreads64_1 desc) x) q d (step 6 l A) :=
  H.far (p := 7) fits64_1 spreads64_1 hd ⟨rfl, by norm_num, by norm_num, hl, rfl, rfl⟩

/-- The block's own sort, flipped on the odd runs. -/
theorem Holds.ownSort (H : Holds x q d A) : Holds (runs128 (BitVec.ofBool (d.testBit 0)) x) q d (steps localSteps A) := by
  simp only [localSteps, steps_append, steps_cons, steps_nil]
  have H32 : Holds (runs32 x) q d _ := (H.runs16.far16 (l := 4) le_rfl
    (groupDir_run spreads64_4 (k := 32#32) (p := 7) d rfl rfl rfl (by decide) le_rfl (by norm_num))).nearAll
    (rowDir_run (k := 32#32) (l := 4) d rfl (by norm_num)) (by norm_num)
  have H64 : Holds (runs64 x) q d _ := ((H32.far32 (l := 5) le_rfl
    (groupDir_run spreads64_2 (k := 64#32) (p := 7) d rfl rfl rfl (by decide) le_rfl (by norm_num))).far16 (l := 5) (by norm_num)
    (groupDir_run spreads64_4 (k := 64#32) (p := 7) d rfl rfl rfl (by decide) (by norm_num) (by norm_num))).nearAll
    (rowDir_run (k := 64#32) (l := 5) d rfl (by norm_num)) (by norm_num)
  exact (((H64.far64 le_rfl (groupDir_flip spreads64_1 d rfl (by decide) (by norm_num))).far32 (by norm_num)
    (groupDir_flip spreads64_2 d rfl (by decide) (by norm_num))).far16 (by norm_num)
    (groupDir_flip spreads64_4 d rfl (by decide) (by norm_num))).nearAll (rowDir_flip d) (by norm_num)

/-- The last merge of a block. -/
theorem Holds.lastMerge (H : Holds x q d A) (hd : d < 16) :
    Holds (near1 (rowDesc 4096#32) (near2 (rowDesc 4096#32) (near4 (rowDesc 4096#32) (near8 (rowDesc 4096#32)
      (SortProof.far16 4096#32 (SortProof.far32 4096#32 (SortProof.far64 4096#32 x))))))) q d (steps lastSteps A) := by
  simp only [lastSteps, steps_append, steps_cons, steps_nil]
  exact (((H.far64 (by norm_num) (groupDir_last spreads64_1 (t := 12) (p := 7) rfl rfl rfl (by decide) (by norm_num) (by norm_num) (by omega))).far32
    (by norm_num) (groupDir_last spreads64_2 (t := 12) (p := 7) rfl rfl rfl (by decide) (by norm_num) (by norm_num) (by omega))).far16
    (by norm_num) (groupDir_last spreads64_4 (t := 12) (p := 7) rfl rfl rfl (by decide) (by norm_num) (by norm_num) (by omega))).nearAll
    (rowDir_last hd) (by norm_num)

end Local

/-! ## The packed array -/

section Pack
variable {v : FVec Ideal S1024x128 .bf16} {c : Fin 64} {A : Column} {l : Nat} {k : BitVec 32}

/-- Each of the packed array's regrouping stages within a merge of runs of `k` rows. -/
theorem HoldsBoth.far16 (H : HoldsBoth v c A) (hk : k.toNat = 2 ^ (l + 1)) (hl : 4 ≤ l ∧ l + 1 < 10) : HoldsBoth (pack16 k v) c (step 4 l A) :=
  H.far fits128_32 spreads128_32 (fun d _ => groupDir_run spreads128_32 (p := 10) d rfl hk rfl (by decide) hl.1 hl.2) ⟨by norm_num, hl.1, rfl, rfl⟩
theorem HoldsBoth.far32 (H : HoldsBoth v c A) (hk : k.toNat = 2 ^ (l + 1)) (hl : 5 ≤ l ∧ l + 1 < 10) : HoldsBoth (pack32 k v) c (step 5 l A) :=
  H.far fits128_16 spreads128_16 (fun d _ => groupDir_run spreads128_16 (p := 10) d rfl hk rfl (by decide) hl.1 hl.2) ⟨by norm_num, hl.1, rfl, rfl⟩
theorem HoldsBoth.far64 (H : HoldsBoth v c A) (hk : k.toNat = 2 ^ (l + 1)) (hl : 6 ≤ l ∧ l + 1 < 10) : HoldsBoth (pack64 k v) c (step 6 l A) :=
  H.far fits128_8 spreads128_8 (fun d _ => groupDir_run spreads128_8 (p := 10) d rfl hk rfl (by decide) hl.1 hl.2) ⟨by norm_num, hl.1, rfl, rfl⟩
theorem HoldsBoth.far128 (H : HoldsBoth v c A) (hk : k.toNat = 2 ^ (l + 1)) (hl : 7 ≤ l ∧ l + 1 < 10) : HoldsBoth (pack128 k v) c (step 7 l A) :=
  H.far fits128_4 spreads128_4 (fun d _ => groupDir_run spreads128_4 (p := 10) d rfl hk rfl (by decide) hl.1 hl.2) ⟨by norm_num, hl.1, rfl, rfl⟩
theorem HoldsBoth.far256 (H : HoldsBoth v c A) (hk : k.toNat = 2 ^ (l + 1)) (hl : 8 ≤ l ∧ l + 1 < 10) : HoldsBoth (pack256 k v) c (step 8 l A) :=
  H.far fits128_2 spreads128_2 (fun d _ => groupDir_run spreads128_2 (p := 10) d rfl hk rfl (by decide) hl.1 hl.2) ⟨by norm_num, hl.1, rfl, rfl⟩

/-- The three regrouping stages of the last merge. -/
theorem HoldsBoth.lastFar (H : HoldsBoth v c A) :
    HoldsBoth (pack128 2048#32 (pack256 2048#32 (pack512 2048#32 v))) c (step 7 10 (step 8 10 (step 9 10 A))) :=
  ((H.far fits128_1 spreads128_1 (l := 10) (s := 9) (fun d hd => groupDir_last spreads128_1 (t := 11) (p := 10) rfl rfl rfl (by decide) (by norm_num) (by norm_num)
      (by omega)) ⟨by norm_num, by norm_num, rfl, rfl⟩).far
    fits128_2 spreads128_2 (l := 10) (s := 8) (fun d hd => groupDir_last spreads128_2 (t := 11) (p := 10) rfl rfl rfl (by decide) (by norm_num) (by norm_num)
      (by omega)) ⟨by norm_num, by norm_num, rfl, rfl⟩).far
    fits128_4 spreads128_4 (l := 10) (s := 7) (fun d hd => groupDir_last spreads128_4 (t := 11) (p := 10) rfl rfl rfl (by decide) (by norm_num) (by norm_num)
      (by omega)) ⟨by norm_num, by norm_num, rfl, rfl⟩

/-- The merge of pairs, -/
theorem HoldsBoth.merge256 (H : HoldsBoth v c A) :
    HoldsBoth (pack1 256#32 (pack2 256#32 (pack4 256#32 (pack8 256#32 (pack16 256#32 (pack32 256#32 (pack64 256#32 (pack128 256#32 v)))))))) c
      (steps ([(7, 7), (6, 7), (5, 7), (4, 7)] ++ stepsNear 7) A) := by
  simp only [steps_append, steps_cons, steps_nil]
  exact ((((H.far128 (l := 7) rfl (by norm_num)).far64 (l := 7) rfl (by norm_num)).far32 (l := 7) rfl (by norm_num)).far16 (l := 7) rfl (by norm_num)).rollAll (l := 7) rfl (by norm_num)
/-- of fours -/
theorem HoldsBoth.merge512 (H : HoldsBoth v c A) :
    HoldsBoth (pack1 512#32 (pack2 512#32 (pack4 512#32 (pack8 512#32 (pack16 512#32 (pack32 512#32 (pack64 512#32 (pack128 512#32
      (pack256 512#32 v))))))))) c (steps ([(8, 8), (7, 8), (6, 8), (5, 8), (4, 8)] ++ stepsNear 8) A) := by
  simp only [steps_append, steps_cons, steps_nil]
  exact (((((H.far256 (l := 8) rfl (by norm_num)).far128 (l := 8) rfl (by norm_num)).far64 (l := 8) rfl (by norm_num)).far32 (l := 8) rfl (by norm_num)).far16 (l := 8) rfl
    (by norm_num)).rollAll (l := 8) rfl (by norm_num)
/-- and of eights. -/
theorem HoldsBoth.merge1024 (H : HoldsBoth v c A) :
    HoldsBoth (pack1 1024#32 (pack2 1024#32 (pack4 1024#32 (pack8 1024#32 (halves16 (halves32 (halves64 (halves128 (halves256
      (halves512 v)))))))))) c (steps ([(9, 9), (8, 9), (7, 9), (6, 9), (5, 9), (4, 9)] ++ stepsNear 9) A) := by
  simp only [steps_append, steps_cons, steps_nil]
  exact ((((((H.halves (s := 9) fits128_1 _ ⟨by norm_num, rfl, rfl⟩).halves (s := 8) fits128_2 _ ⟨by norm_num, rfl, rfl⟩).halves (s := 7) fits128_4 _
    ⟨by norm_num, rfl, rfl⟩).halves (s := 6) fits128_8 _ ⟨by norm_num, rfl, rfl⟩).halves (s := 5) fits128_16 _ ⟨by norm_num, rfl, rfl⟩).halves (s := 4) fits128_32 _
    ⟨by norm_num, rfl, rfl⟩).rollAll (l := 9) rfl (by norm_num)

/-- All the stages of the packed array. -/
theorem HoldsBoth.packed {g : Vec Ideal S16x128x64 .bf16} (H : HoldsBoth (sideBySide g) c A) : HoldsBoth (begun2048 g) c (steps packSteps A) := by
  have h1 : HoldsBoth (runs256 g) c _ := H.merge256
  have h2 : HoldsBoth (runs512 g) c _ := h1.merge512
  have h3 : HoldsBoth (runs1024 g) c _ := h2.merge1024
  have h4 : HoldsBoth (begun2048 g) c _ := h3.lanes.lastFar
  simp only [packSteps, steps_append, steps_cons, steps_nil] at h4 ⊢
  exact h4

end Pack

end Cert.SortProof
-- ==== Proof.Readings.lean ====
/-
# From the arguments to the results, entry by entry

The gathered blocks laid side by side, the slab a device reads of the merged array and the half it keeps of the slab only move
entries: followed from each device's block of a column to its part of the result, the kernel runs the whole network.
-/
module

public import proofs.«01_k».proof.Proof.Stretches
public import proofs.«01_k».proof.Proof.Contents

@[expose] public section

noncomputable section

namespace Cert.SortProof

open Cert.KernelIdeal Cert.KernelIdeal.Gen
open Idealize.ShloMosaic Idealize.ShloMosaic.ValueIdx Idealize.ShloMosaic.TcCoe

/-! ## The device's number in the masks -/

theorem oddBit_eq : ∀ c : Dev nD, oddBit c = BitVec.ofBool (c.val.testBit 0) := by decide
theorem lowerHalf_eq : ∀ c : Dev nD, Scalar.cmpi .slt (devWord c) 8#32 = BitVec.ofBool (decide (c.val < 8)) := by decide

/-! ## The gathered blocks side by side -/

section Gathered
variable (g : Vec Ideal S16x128x64 .bf16)

/-- Eight of the blocks, one below another. -/
theorem stacked_apply (o : Nat) (h : S16x128x64.Slices ![o, 0, 0] S8x128x64) (hc : S8x128x64.ShapeCasts S1024x64)
    (r : Fin 1024) (q : Fin 64) (b : Fin 16) (hb : b.val = o + r.val / 128) :
    shapeCast S1024x64 (extractStridedSlice S8x128x64 ![o, 0, 0] g h) hc (ix2 r q)
      = g (ix3 b ⟨r.val % 128, Nat.mod_lt _ (by norm_num)⟩ q) := by
  have h1 : r.val / 128 < 8 := by have := r.isLt; omega
  have h2 : r.val % 128 < 128 := Nat.mod_lt _ (by norm_num)
  refine (shapeCast_apply _ hc (ix2 r q) (ix3 ⟨r.val / 128, h1⟩ ⟨r.val % 128, h2⟩ q) ?_).trans ?_
  · rw [Shape.rowMajor_val_three, Shape.rowMajor_val_two]
    show (r.val / 128 * 128 + r.val % 128) * 64 + q.val = r.val * 64 + q.val
    rw [Nat.div_add_mod']
  refine extractStridedSlice_apply _ g h _ (ix3 b ⟨r.val % 128, h2⟩ q) fun a => ?_
  match a with
  | ⟨0, _⟩ => exact hb
  | ⟨1, _⟩ => show r.val % 128 = 0 + r.val % 128; omega
  | ⟨2, _⟩ => show q.val = 0 + q.val; omega

/-- Where block `b` holds run `b` of the column, the blocks side by side hold the column in two lanes. -/
theorem sideBySide_holds (q : Fin 64) (A : Column)
    (hg : ∀ (b : Fin 16) (r : Fin 128) (i : Fin 2048), i.val = 128 * b.val + r.val → g (ix3 b r q) = A i) :
    HoldsBoth (sideBySide g) q A := by
  intro p h hh hp r i hi
  have hq := q.isLt
  have hr := r.isLt
  unfold sideBySide
  have hcase : h = 0 ∨ h = 1 := by omega
  rcases hcase with rfl | rfl
  · refine (concatenate_pair_apply_left (s₁ := S1024x64) (s₂ := S1024x64) 1 _ _ _ (ix2 r p) rfl (ix2 r q) fun x => ?_).trans ?_
    · match x with
      | ⟨0, _⟩ => rfl
      | ⟨1, _⟩ => show q.val = p.val; omega
    · refine (stacked_apply g 0 _ _ r q ⟨r.val / 128, by omega⟩ (by show r.val / 128 = 0 + r.val / 128; omega)).trans (hg _ _ i ?_)
      show i.val = 128 * (r.val / 128) + r.val % 128
      omega
  · refine (concatenate_pair_apply_right (s₁ := S1024x64) (s₂ := S1024x64) 1 _ _ _ (ix2 r p) rfl rfl (ix2 r q) (fun x hx => ?_) ?_).trans ?_
    · match x with
      | ⟨0, _⟩ => rfl
      | ⟨1, _⟩ => exact absurd rfl hx
    · show q.val + 64 = p.val; omega
    · refine (stacked_apply g 8 _ _ r q ⟨8 + r.val / 128, by omega⟩ rfl).trans (hg _ _ i ?_)
      show i.val = 128 * (8 + r.val / 128) + r.val % 128
      omega

/-- Entry `b`, lane `p` of slab `t` of the stored array. -/
theorem packed_apply (t : Fin 8) (b p : Fin 128) (r : Fin 1024) (hr : r.val = 128 * t.val + b.val) :
    packed g (ix3 t b p) = begun2048 g (ix2 r p) := by
  rw [packed_eq, shapeCast_self]
  refine shapeCast_apply _ _ (ix3 t b p) (ix2 r p) ?_
  rw [Shape.rowMajor_val_three, Shape.rowMajor_val_two]
  show r.val * 128 + p.val = (t.val * 128 + b.val) * 128 + p.val
  omega

end Gathered

/-! ## The device's slab, and its half of it -/

section Own
variable (c : Dev nD)

theorem slab_apply (W : Vec Ideal S8x128x128 .bf16) (z : Fin 1) (b p : Fin 128) (t : Fin 8) (ht : t.val = c.val % 8) :
    slab (F := Ideal) c W (ix3 z b p) = W (ix3 t b p) := by
  unfold slab
  show W _ = W _
  congr 1
  funext a
  refine Fin.ext ?_
  have e : k0_off3 c = ![c.val % 8, 0, 0] := k0_off3_eq c
  match a with
  | ⟨0, _⟩ =>
    show k0_off3 c 0 + 1 * z.val = t.val
    rw [e, ht]
    show c.val % 8 + 1 * z.val = c.val % 8
    have := z.isLt
    omega
  | ⟨1, _⟩ =>
    show k0_off3 c 1 + 1 * b.val = b.val
    rw [e]
    show 0 + 1 * b.val = b.val
    omega
  | ⟨2, _⟩ =>
    show k0_off3 c 2 + 1 * p.val = p.val
    rw [e]
    show 0 + 1 * p.val = p.val
    omega

/-- A half of the slab, from lane `o` on. -/
theorem half_apply (w : Vec Ideal S1x128x128 .bf16) (o : Nat) (h : S128x128.Slices ![0, o] S128x64) (hc : S1x128x128.ShapeCasts S128x128)
    (r : Fin 128) (q : Fin 64) (p : Fin 128) (hp : p.val = o + q.val) :
    extractStridedSlice S128x64 ![0, o] (shapeCast S128x128 w hc) h (ix2 r q) = w (ix3 0 r p) := by
  refine (extractStridedSlice_apply _ _ h (ix2 r q) (ix2 r p) fun a => ?_).trans ?_
  · match a with
    | ⟨0, _⟩ => show r.val = 0 + r.val; omega
    | ⟨1, _⟩ => exact hp
  refine shapeCast_apply w hc (ix2 r p) (ix3 0 r p) ?_
  rw [Shape.rowMajor_val_three, Shape.rowMajor_val_two]
  show (0 * 128 + r.val) * 128 + p.val = r.val * 128 + p.val
  omega

theorem ownHalf_apply (w : Vec Ideal S1x128x128 .bf16) (r : Fin 128) (q : Fin 64) (p : Fin 128) (hp : p.val = 64 * (c.val / 8) + q.val) :
    ownHalf (devWord c) w (ix2 r q) = w (ix3 0 r p) := by
  have hc : c.val < 16 := c.isLt
  unfold ownHalf
  rw [lowerHalf_eq, select_ofBool]
  by_cases h : c.val < 8
  · rw [decide_eq_true h, if_pos rfl]
    exact half_apply w 0 _ _ r q p (by omega)
  · rw [decide_eq_false h, if_neg (by decide)]
    exact half_apply w 64 _ _ r q p (by omega)

/-- The device's half of its slab holds the device's run of the column. -/
theorem ownHalf_holds (g : Vec Ideal S16x128x64 .bf16) (q : Fin 64) (A : Column) (H : HoldsBoth (begun2048 g) q A) :
    Holds (ownHalf (devWord c) (slab (F := Ideal) c (packed g))) q c.val A := by
  intro r i hi
  have hc : c.val < 16 := c.isLt
  have hq := q.isLt
  have hr := r.isLt
  have ht : c.val % 8 < 8 := Nat.mod_lt _ (by norm_num)
  have hp : 64 * (c.val / 8) + q.val < 128 := by omega
  have hrow : 128 * (c.val % 8) + r.val < 1024 := by omega
  rw [ownHalf_apply c _ r q ⟨_, hp⟩ rfl, slab_apply c _ 0 r ⟨_, hp⟩ ⟨c.val % 8, ht⟩ rfl, packed_apply g ⟨c.val % 8, ht⟩ r ⟨_, hp⟩ ⟨_, hrow⟩ rfl]
  exact H ⟨_, hp⟩ (c.val / 8) (by omega) rfl ⟨_, hrow⟩ i (by show i.val = 1024 * (c.val / 8) + (128 * (c.val % 8) + r.val); omega)

end Own

/-! ## The whole -/

section Whole
variable (m : (ℓ : Loc nD τ sig) → Buf (Elt Ideal) ℓ) (ρ : Dev nD → PrngReg)

/-- Where every device's block holds its run of the column, every slot of the gather buffer holds that run after the device's
    own sort. -/
theorem gAll_holds (q : Fin 64) (A : Column) (hx : ∀ c : Dev nD, Holds (xstg c m ρ : FVec Ideal S128x64 .bf16) q c.val A)
    (b : Fin 16) (r : Fin 128) (i : Fin 2048) (hi : i.val = 128 * b.val + r.val) : gAll m ρ (ix3 b r q) = steps localSteps A i := by
  show ownSort (oddBit (b : Dev nD)) (xstg (b : Dev nD) m ρ) (ix3 (0 : Fin 1) r q) = _
  rw [ownSort_eq, oddBit_eq]
  refine (shapeCast_apply _ _ (ix3 (0 : Fin 1) r q) (ix2 r q) ?_).trans ((hx b).ownSort r i hi)
  rw [Shape.rowMajor_val_three, Shape.rowMajor_val_two]
  show r.val * 64 + q.val = (0 * 128 + r.val) * 64 + q.val
  omega

/-- Every device's result holds its run of the column after all the stages. -/
theorem outAt_apply (q : Fin 64) (A : Column) (hx : ∀ c : Dev nD, Holds (xstg c m ρ : FVec Ideal S128x64 .bf16) q c.val A)
    (c : Dev nD) (r : Fin 128) (i : Fin 2048) (hi : i.val = 128 * c.val + r.val) :
    (outAt c m ρ : FVec Ideal S128x64 .f32) (ix2 r q) = steps allSteps A i := by
  have H := (ownHalf_holds c _ q _ (sideBySide_holds (gAll m ρ) q _ (gAll_holds m ρ q A hx)).packed).lastMerge c.isLt r i hi
  rw [allSteps_split, steps_append, steps_append, ← H]
  unfold outAt
  rw [finish_eq]
  rfl

end Whole

end Cert.SortProof
-- ==== Proof.Reference.lean ====
/-
# What the reference computes

The reference sorts every column of the widened argument. Over the reals its comparator is the order itself, so a column of its
result is the one ascending rearrangement of the argument's column, and that is what the network leaves.
-/
module

public import proofs.«01_k».proof.Proof.Net
public import proofs.«01_k».proof.Proof.Gen.ReferenceIdeal.Run
public import Idealize.ShloMosaic.Lib.SortFacts
public import Idealize.ShloMosaic.Lib.ValueIdx
public import Idealize.ShloMosaic.PureOps.Ideal.Laws
public import Mathlib.Data.List.FinRange
public import Mathlib.Data.List.Sort

@[expose] public section

noncomputable section

namespace Cert.SortProof

open Idealize.ShloMosaic Idealize.ShloMosaic.ValueIdx

/-- The reference's comparator, over the reals, is the order. -/
theorem comparator_eq (l r : Ideal .f32) : Cert.ReferenceIdeal.comparator_f32_d0 (F := Ideal) l r = BitVec.ofBool (decide ((l : EReal) < r)) := by
  have hz (x : Ideal .f32) : Scalar.select (FloatOps.cmpf .oeq x (FloatOps.ofBits .f32 0x00000000#32)) (FloatOps.ofBits .f32 0x00000000#32) x = x := by
    rw [Ideal.cmpf_def, show (FloatOps.ofBits .f32 0x00000000#32 : Ideal .f32) = (0 : EReal) from Ideal.ofBits_zero_f32]
    show Scalar.select (BitVec.ofBool (decide ((x : EReal) = 0))) (0 : EReal) x = x
    by_cases h : (x : EReal) = 0
    · rw [decide_eq_true h]; exact h.symm
    · rw [decide_eq_false h]; rfl
  have hn (x y z : Ideal .f32) : Scalar.select (FloatOps.cmpf .une x x) y z = z := by
    rw [Ideal.cmpf_def]
    show Scalar.select (BitVec.ofBool (decide (x ≠ x))) y z = z
    rw [decide_eq_false (fun h => h rfl)]; rfl
  unfold Cert.ReferenceIdeal.comparator_f32_d0
  dsimp only
  rw [hz, hz, hn, hn]
  rfl

/-- Two ascending rearrangements of one column are equal. -/
theorem ascending_unique (G : Column) (σ τ : Equiv.Perm (Fin 2048)) (hσ : Monotone (G ∘ σ)) (hτ : Monotone (G ∘ τ)) : G ∘ σ = G ∘ τ :=
  List.ofFn_injective (((σ.ofFn_comp_perm G).trans (τ.ofFn_comp_perm G).symm).eq_of_pairwise'
    hσ.sortedLE_ofFn.pairwise hτ.sortedLE_ofFn.pairwise)

/-- The positions in sorted order are a rearrangement of the positions. -/
theorem sortedFrom_perm {n : Nat} (before : Fin n → Fin n → Bool) : ∃ σ : Equiv.Perm (Fin n), ∀ i, sortedFrom before i = σ i :=
  ⟨Equiv.ofBijective (sortedFrom before) ⟨sortedFrom_injective before, sortedFrom_surjective before⟩, fun _ => rfl⟩

/-- The positions in sorted order read a column as the network leaves it. -/
theorem sorted_column (G : Column) (before : Fin 2048 → Fin 2048 → Bool) (hbefore : ∀ k k', before k k' = decide (G k < G k')) (i : Fin 2048) :
    G (sortedFrom before i) = steps allSteps G i := by
  obtain ⟨σ, hσ⟩ := sortedFrom_perm before
  have hmono : Monotone (G ∘ σ) := by
    intro a b hab
    rcases hab.eq_or_lt with rfl | hlt
    · exact le_rfl
    · have h := sortedFrom_noInversion before before
        (fun a b h => by
          rw [hbefore] at h ⊢
          exact decide_eq_false (of_decide_eq_true h).le.not_gt)
        (fun _ _ h => h)
        (fun a b d h1 h2 => by
          rw [hbefore] at h1 h2 ⊢
          exact decide_eq_false ((not_lt.mp (of_decide_eq_false h2)).trans (not_lt.mp (of_decide_eq_false h1))).not_gt)
        a b hlt
      rw [hbefore, hσ, hσ] at h
      exact not_lt.mp (of_decide_eq_false h)
  obtain ⟨τ, hτ⟩ := allSteps_perm G
  have hτm : Monotone (G ∘ τ) := by
    rw [← hτ]
    exact allSteps_monotone G
  rw [hτ, hσ]
  exact congrFun (ascending_unique G σ τ hmono hτm) i

/-- A column of the reference's sort. -/
theorem sort_column (x : FVec Ideal Cert.ReferenceIdeal.S2048x64 .f32) (c : Fin 64) (i : Fin 2048) :
    Host.sort Cert.ReferenceIdeal.S2048x64 0 Cert.ReferenceIdeal.comparator_f32_d0 x (ix2 i c)
      = steps allSteps (fun k => x (ix2 k c)) i := by
  let along : Fin 2048 → Cert.ReferenceIdeal.S2048x64.Idx :=
    fun k => Shape.Idx.along (s := Cert.ReferenceIdeal.S2048x64) (ix2 i c) (0 : Fin 2) k
  have halong : along = fun k => ix2 k c := funext fun k => funext fun a => match a with
    | ⟨0, _⟩ => rfl
    | ⟨1, _⟩ => rfl
  unfold Host.sort
  rw [dif_pos (by decide)]
  show x (along (sortedFrom (fun k k' => Cert.ReferenceIdeal.comparator_f32_d0 (x (along k)) (x (along k')) == 1#1) i)) = _
  rw [halong]
  refine sorted_column (fun k => x (ix2 k c)) _ (fun k k' => ?_) i
  rw [comparator_eq]
  cases decide ((x (ix2 k c) : EReal) < x (ix2 k' c)) <;> rfl

end Cert.SortProof
-- ==== Proof.Equation.lean ====
/-
# The equation

Every device's result is its block of the whole array's columns sorted.
-/
module

public import proofs.«01_k».proof.Defs
public import proofs.«01_k».proof.Proof.Readings
public import proofs.«01_k».proof.Proof.Reference
public import proofs.«01_k».proof.Proof.Results
public import proofs.«01_k».proof.Proof.Gen.KernelIdeal
public import proofs.«01_k».proof.Proof.Gen.ReferenceIdeal.Run

@[expose] public section

noncomputable section

namespace Cert.SortProof

open Cert.KernelIdeal Cert.KernelIdeal.Gen
open Idealize.ShloMosaic Idealize.ShloMosaic.ValueIdx Idealize.ShloMosaic.TcCoe Idealize.SL.Sem

/-- The reference's value: the whole array's columns sorted. -/
def sorted (w : FVec Ideal ⟨2, ![2048, 64]⟩ .bf16) : FVec Ideal ⟨2, ![2048, 64]⟩ .f32 :=
  Host.sort Cert.ReferenceIdeal.S2048x64 0 Cert.ReferenceIdeal.comparator_f32_d0 (extf .f32 w Cert.ReferenceIdeal.Facts₀.bitsLt_bf16_f32)

/-- Entry `i` of column `q` sorted is entry `i` of the column after the network. -/
theorem sorted_apply (w : FVec Ideal ⟨2, ![2048, 64]⟩ .bf16) (q : Fin 64) (i : Fin 2048) :
    sorted w (ix2 i q) = steps allSteps (fun k => w (ix2 k q)) i :=
  sort_column (extf .f32 w Cert.ReferenceIdeal.Facts₀.bitsLt_bf16_f32) q i

/-- Entry `r` of a device's block is entry `128 c + r` of the whole. -/
theorem block_entry {α : Type} (v : (⟨2, ![2048, 64]⟩ : Shape).Idx → α) (c : Fin 16) (r : Fin 128) (q : Fin 64) (i : Fin 2048)
    (hi : i.val = 128 * c.val + r.val) : (Layout.block ⟨2, ![128, 64]⟩ ⟨2, ![2048, 64]⟩ 0 16 c v : (⟨2, ![128, 64]⟩ : Shape).Idx → α) (ix2 r q) = v (ix2 i q) := by
  rw [Layout.block_apply]
  congr 1
  funext a
  refine Fin.ext ?_
  match a with
  | ⟨0, _⟩ => show c.val * 128 + r.val = i.val; omega
  | ⟨1, _⟩ => rfl

/-- Where the devices hold the blocks of `w`, every device's result is its block of `w` sorted. -/
theorem outAt_block (m : (ℓ : Loc nD τ sig) → Buf (Elt Ideal) ℓ) (ρ : Dev nD → PrngReg) (w : FVec Ideal ⟨2, ![2048, 64]⟩ .bf16)
    (hm : ∀ c : Dev nD, m ((c.tc : Thread nD τ).loc main_arg0) = Layout.block ⟨2, ![128, 64]⟩ ⟨2, ![2048, 64]⟩ 0 16 c w) (c : Dev nD) :
    (outAt c m ρ : FVec Ideal S128x64 .f32) = Layout.block ⟨2, ![128, 64]⟩ ⟨2, ![2048, 64]⟩ 0 16 c (sorted w) := by
  have hx : ∀ (q : Fin 64) (d : Dev nD), Holds (xstg d m ρ : FVec Ideal S128x64 .bf16) q d.val (fun k => w (ix2 k q)) := by
    intro q d r i hi
    rw [xstg_eq, hm d]
    exact block_entry w d r q i hi
  have key : ∀ (r : Fin 128) (q : Fin 64), (outAt c m ρ : FVec Ideal S128x64 .f32) (ix2 r q)
      = (Layout.block ⟨2, ![128, 64]⟩ ⟨2, ![2048, 64]⟩ 0 16 c (sorted w) : FVec Ideal S128x64 .f32) (ix2 r q) := by
    intro r q
    have hlt : 128 * c.val + r.val < 2048 := by
      have h1 : c.val < 16 := c.isLt
      have h2 := r.isLt
      omega
    rw [block_entry (sorted w) c r q ⟨_, hlt⟩ rfl, sorted_apply]
    exact outAt_apply m ρ q _ (hx q) c r ⟨_, hlt⟩ rfl
  funext j
  rw [eq_ix2 j]
  exact key (j 0) (j 1)

/-- Over the reals, given blocks of one array, the kernel's results are the blocks of the reference's result. -/
theorem algebraic : Cert.algebraic_KernelIdeal_ReferenceIdeal := by
  intro m ρ m' ρ' _ hm
  refine ⟨sorted (m' (((0 : Dev Cert.ReferenceIdeal.nD).tc : Thread _ Cert.ReferenceIdeal.τ).loc Cert.ReferenceIdeal.main_arg0)), ?_, ?_⟩
  · exact (θ_run Cert.KernelIdeal.defs _ _).mono
      (fun _ h c => ⟨(h.1 c).1.trans (outAt_block m ρ _ hm c), (h.1 c).2⟩) (run_arrays (F := Ideal) m ρ)
  · exact (θ_run Cert.ReferenceIdeal.defs _ _).mono (fun _ h => h 0) (Cert.ReferenceIdeal.Value.run (F := Ideal) m' ρ')

end Cert.SortProof
-- ==== Proof.lean ====
/-
# The certificate

The claims put together: the frames, the kernel's idealization changing nothing, and the equation with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    Cert.SortProof.frame_kernel, Cert.SortProof.frame_kernelIdeal, Cert.SortProof.frame_reference, trivial, Cert.SortProof.algebraic⟩

end Cert.Proof

end
